-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 1024, 32, 128]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 1024, 32, 128]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S1x1024x1024 : Shape := ⟨3, ![1, 1024, 1024]⟩
abbrev S1024x4096 : Shape := ⟨2, ![1024, 4096]⟩
abbrev S1x1024x8x128 : Shape := ⟨4, ![1, 1024, 8, 128]⟩
abbrev S4096x1024 : Shape := ⟨2, ![4096, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x1024x8x128 : S_.BroadcastsInDim S1x1024x8x128 (![] : Fin 0 → Fin S1x1024x8x128.rank)
  reducesTo_S1x1024x8x128_S_d0_1_2_3 : S1x1024x8x128.ReducesTo [0, 1, 2, 3] S_

variable [Facts]

def fn {F : FTy → Type} [FloatOps F] (main_arg0 : FVec F S1x1024x1024 .f32) (main_arg1 : FVec F S1024x4096 .f32) (main_arg2 : FVec F S1x1024x8x128 .f32) (main_arg3 : FVec F S1x1024x8x128 .f32) (main_arg4 : FVec F S4096x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x1024x8x128 .f32 := Host.absf main_arg2
  let main_cst_2 : FVec F S_ .f32 := constant S_ .f32 0x7F800000#32
  let main_v10 : FVec F S1x1024x8x128 .f32 := broadcastInDim S1x1024x8x128 ![] bcast_S_S1x1024x8x128 main_cst_2
  let main_v11 : IVec S1x1024x8x128 1 := cmpf .olt main_v9 main_v10
  let main_c_3 : IVec S_ 1 := constantI S_ 1 1#1
  let main_v12 : IVec S_ 1 := (fun x v => Host.reduce IntOp.andi x v reducesTo_S1x1024x8x128_S_d0_1_2_3 h_S_) main_v11 main_c_3
  let main_v13 : IVec S_ 1 := andi main_v8 main_v12
  main_v13
-- ==== Pre_finite_inputs_ReferenceIdeal.lean ====
abbrev S1x1024x1024 : Shape := ⟨3, ![1, 1024, 1024]⟩
abbrev S1024x4096 : Shape := ⟨2, ![1024, 4096]⟩
abbrev S1x1024x32x128 : Shape := ⟨4, ![1, 1024, 32, 128]⟩
abbrev S4096x1024 : Shape := ⟨2, ![4096, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x1024x32x128 : S_.BroadcastsInDim S1x1024x32x128 (![] : Fin 0 → Fin S1x1024x32x128.rank)
  reducesTo_S1x1024x32x128_S_d0_1_2_3 : S1x1024x32x128.ReducesTo [0, 1, 2, 3] S_

variable [Facts]

def fn {F : FTy → Type} [FloatOps F] (main_arg0 : FVec F S1x1024x1024 .f32) (main_arg1 : FVec F S1024x4096 .f32) (main_arg2 : FVec F S1x1024x32x128 .f32) (main_arg3 : FVec F S1x1024x32x128 .f32) (main_arg4 : FVec F S4096x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x1024x32x128 .f32 := Host.absf main_arg2
  let main_cst_2 : FVec F S_ .f32 := constant S_ .f32 0x7F800000#32
  let main_v10 : FVec F S1x1024x32x128 .f32 := broadcastInDim S1x1024x32x128 ![] bcast_S_S1x1024x32x128 main_cst_2
  let main_v11 : IVec S1x1024x32x128 1 := cmpf .olt main_v9 main_v10
  let main_c_3 : IVec S_ 1 := constantI S_ 1 1#1
  let main_v12 : IVec S_ 1 := (fun x v => Host.reduce IntOp.andi x v reducesTo_S1x1024x32x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x4096 : Shape := ⟨2, ![1024, 4096]⟩
abbrev S1x1024x8x128 : Shape := ⟨4, ![1, 1024, 8, 128]⟩
abbrev S4096x1024 : Shape := ⟨2, ![4096, 1024]⟩
abbrev S1024x1024 : Shape := ⟨2, ![1024, 1024]⟩
abbrev S384x1024 : Shape := ⟨2, ![384, 1024]⟩
abbrev S2x1024x1024 : Shape := ⟨3, ![2, 1024, 1024]⟩
abbrev S2 : Shape := ⟨1, ![2]⟩
abbrev S2x3 : Shape := ⟨2, ![2, 3]⟩
abbrev S1 : Shape := ⟨1, ![1]⟩
abbrev S_ : Shape := ⟨0, ![]⟩
abbrev S64x1024 : Shape := ⟨2, ![64, 1024]⟩
abbrev S384x128 : Shape := ⟨2, ![384, 128]⟩
abbrev S384x384 : Shape := ⟨2, ![384, 384]⟩
abbrev S384 : Shape := ⟨1, ![384]⟩
abbrev S384x1 : Shape := ⟨2, ![384, 1]⟩
abbrev S1x384x1024 : Shape := ⟨3, ![1, 384, 1024]⟩
abbrev S1x1 : Shape := ⟨2, ![1, 1]⟩
abbrev S320x128 : Shape := ⟨2, ![320, 128]⟩
abbrev S320x320 : Shape := ⟨2, ![320, 320]⟩
abbrev S320 : Shape := ⟨1, ![320]⟩
abbrev S320x1 : Shape := ⟨2, ![320, 1]⟩
abbrev S64x128 : Shape := ⟨2, ![64, 128]⟩
abbrev S320x64 : Shape := ⟨2, ![320, 64]⟩
abbrev S5x64x128 : Shape := ⟨3, ![5, 64, 128]⟩
abbrev S5x64x64 : Shape := ⟨3, ![5, 64, 64]⟩
abbrev S5x64 : Shape := ⟨2, ![5, 64]⟩
abbrev S320x1024 : Shape := ⟨2, ![320, 1024]⟩
abbrev S1x320x1024 : Shape := ⟨3, ![1, 320, 1024]⟩

abbrev nBuf : Space → Nat
  | .hbm => 10
  | .vmem => 12
  | .smem => 0
  | _ => 0

abbrev bufTy : (tb : Table) → Fin (tcTables nBuf tb) → BufTy
  | .hbm, ⟨0, _⟩ => ⟨S1x1024x1024, .f32⟩
  | .hbm, ⟨1, _⟩ => ⟨S1024x4096, .f32⟩
  | .hbm, ⟨2, _⟩ => ⟨S1x1024x8x128, .f32⟩
  | .hbm, ⟨3, _⟩ => ⟨S1x1024x8x128, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S384x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2x1024x1024, .bf16⟩
  | .local _ .vmem, ⟨9, _⟩ => ⟨S2x1024x1024, .bf16⟩
  | .local _ .vmem, ⟨10, _⟩ => ⟨S1024x1024, .f32⟩
  | .local _ .vmem, ⟨11, _⟩ => ⟨S1024x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_mult1 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v8 : BitVec 32 := Scalar.muli v2 c1024_i32
  v8
def k0_off1 (d0 : Dev nD) : Fin 2 → Nat :=
  let c0_i32_2 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v8 : BitVec 32 := Scalar.muli v2 c1024_i32
  let v9 : BitVec 32 := v8
  ![0, v9.toNat]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v8 : BitVec 32 := Scalar.muli v2 c1024_i32
  let v9 : BitVec 32 := v8
  let c0_i32_4 : BitVec 32 := 0#32
  ![v9.toNat, 0]
def k0_dev1 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c2_i32_1 : BitVec 32 := 2#32
  let c2_i32 : BitVec 32 := 2#32
  let v4 : BitVec 32 := Scalar.remsi v2 c2_i32
  let v5 : BitVec 32 := Scalar.muli c2_i32_1 v4
  let v6 : BitVec 32 := Scalar.subi v3 v5
  let c1_i32_6 : BitVec 32 := 1#32
  let v17 : BitVec 32 := Scalar.muli v6 c1_i32_6
  let v18 : BitVec 32 := Scalar.addi c0_i32_7 v17
  v18.toNat
def k0_dev2 (d0 : Dev nD) : Nat :=
  let c0_i32_10 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.subi c3_i32 v2
  let c1_i32_9 : BitVec 32 := 1#32
  let v19 : BitVec 32 := Scalar.muli v7 c1_i32_9
  let v20 : BitVec 32 := Scalar.addi c0_i32_10 v19
  v20.toNat
def k0_dev3 (d0 : Dev nD) : Nat :=
  let c0_i32_292 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c2_i32_1 : BitVec 32 := 2#32
  let c2_i32 : BitVec 32 := 2#32
  let v4 : BitVec 32 := Scalar.remsi v2 c2_i32
  let v5 : BitVec 32 := Scalar.muli c2_i32_1 v4
  let v6 : BitVec 32 := Scalar.subi v3 v5
  let c1_i32_291 : BitVec 32 := 1#32
  let v466 : BitVec 32 := Scalar.muli v6 c1_i32_291
  let v467 : BitVec 32 := Scalar.addi c0_i32_292 v466
  v467.toNat
def k0_dev4 (d0 : Dev nD) : Nat :=
  let c0_i32_502 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.subi c3_i32 v2
  let c1_i32_501 : BitVec 32 := 1#32
  let v810 : BitVec 32 := Scalar.muli v7 c1_i32_501
  let v811 : BitVec 32 := Scalar.addi c0_i32_502 v810
  v811.toNat
def k0_dev5 (d0 : Dev nD) : Nat :=
  let c0_i32_544 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.subi c3_i32 v2
  let c1_i32_543 : BitVec 32 := 1#32
  let v842 : BitVec 32 := Scalar.muli v7 c1_i32_543
  let v843 : BitVec 32 := Scalar.addi c0_i32_544 v842
  v843.toNat
def k0_dev6 (d0 : Dev nD) : Nat :=
  let c0_i32_754 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c2_i32_1 : BitVec 32 := 2#32
  let c2_i32 : BitVec 32 := 2#32
  let v4 : BitVec 32 := Scalar.remsi v2 c2_i32
  let v5 : BitVec 32 := Scalar.muli c2_i32_1 v4
  let v6 : BitVec 32 := Scalar.subi v3 v5
  let c1_i32_753 : BitVec 32 := 1#32
  let v1186 : BitVec 32 := Scalar.muli v6 c1_i32_753
  let v1187 : BitVec 32 := Scalar.addi c0_i32_754 v1186
  v1187.toNat
def k0_dev7 (d0 : Dev nD) : Nat :=
  let c0_i32_797 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c2_i32_1 : BitVec 32 := 2#32
  let c2_i32 : BitVec 32 := 2#32
  let v4 : BitVec 32 := Scalar.remsi v2 c2_i32
  let v5 : BitVec 32 := Scalar.muli c2_i32_1 v4
  let v6 : BitVec 32 := Scalar.subi v3 v5
  let c1_i32_796 : BitVec 32 := 1#32
  let v1218 : BitVec 32 := Scalar.muli v6 c1_i32_796
  let v1219 : BitVec 32 := Scalar.addi c0_i32_797 v1218
  v1219.toNat
def k0_dev8 (d0 : Dev nD) : Nat :=
  let c0_i32_882 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.subi c3_i32 v2
  let c1_i32_881 : BitVec 32 := 1#32
  let v1283 : BitVec 32 := Scalar.muli v7 c1_i32_881
  let v1284 : BitVec 32 := Scalar.addi c0_i32_882 v1283
  v1284.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x1024x1024 : Shape := ⟨3, ![1, 1024, 1024]⟩
abbrev S1024x4096 : Shape := ⟨2, ![1024, 4096]⟩
abbrev S1x1024x32x128 : Shape := ⟨4, ![1, 1024, 32, 128]⟩
abbrev S4096x1024 : Shape := ⟨2, ![4096, 1024]⟩
abbrev S1x1024x4096 : Shape := ⟨3, ![1, 1024, 4096]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x32x1024x1024 : Shape := ⟨4, ![1, 32, 1024, 1024]⟩
abbrev S1x1x1024x1024 : Shape := ⟨4, ![1, 1, 1024, 1024]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩

abbrev nBuf : Space → Nat
  | .hbm => 123
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x4096, .f32⟩
  | .hbm, ⟨2, _⟩ => ⟨S1x1024x32x128, .f32⟩
  | .hbm, ⟨3, _⟩ => ⟨S1x1024x32x128, .f32⟩
  | .hbm, ⟨4, _⟩ => ⟨S4096x1024, .f32⟩
  | .hbm, ⟨5, _⟩ => ⟨S1x1024x4096, .f32⟩
  | .hbm, ⟨6, _⟩ => ⟨S1x1024x32x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S1024x1024, .i32⟩
  | .hbm, ⟨48, _⟩ => ⟨S1024x1024, .i32⟩
  | .hbm, ⟨49, _⟩ => ⟨S1024x1024, .i1⟩
  | .hbm, ⟨50, _⟩ => ⟨S_, .i32⟩
  | .hbm, ⟨51, _⟩ => ⟨S1x1024, .i32⟩
  | .hbm, ⟨52, _⟩ => ⟨S1x1024, .i1⟩
  | .hbm, ⟨53, _⟩ => ⟨S1024x1024, .i1⟩
  | .hbm, ⟨54, _⟩ => ⟨S1024x1024, .i1⟩
  | .hbm, ⟨55, _⟩ => ⟨S1024x1024, .i32⟩
  | .hbm, ⟨56, _⟩ => ⟨S1024x1024, .i32⟩
  | .hbm, ⟨57, _⟩ => ⟨S1024x1024, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S1024x1024, .i32⟩
  | .hbm, ⟨65, _⟩ => ⟨S1024x1024, .i32⟩
  | .hbm, ⟨66, _⟩ => ⟨S_, .i32⟩
  | .hbm, ⟨67, _⟩ => ⟨S1024x1024, .i32⟩
  | .hbm, ⟨68, _⟩ => ⟨S1024x1024, .i1⟩
  | .hbm, ⟨69, _⟩ => ⟨S_, .i32⟩
  | .hbm, ⟨70, _⟩ => ⟨S1024x1024, .i32⟩
  | .hbm, ⟨71, _⟩ => ⟨S1024x1024, .i1⟩
  | .hbm, ⟨72, _⟩ => ⟨S_, .i32⟩
  | .hbm, ⟨73, _⟩ => ⟨S_, .i1⟩
  | .hbm, ⟨74, _⟩ => ⟨S1024x1024, .i1⟩
  | .hbm, ⟨75, _⟩ => ⟨S1024x1024, .i1⟩
  | .hbm, ⟨76, _⟩ => ⟨S1024x1024, .i1⟩
  | .hbm, ⟨77, _⟩ => ⟨S1024x1024, .i32⟩
  | .hbm, ⟨78, _⟩ => ⟨S1024x1024, .i32⟩
  | .hbm, ⟨79, _⟩ => ⟨S1024x1024, .i32⟩
  | .hbm, ⟨80, _⟩ => ⟨S_, .i32⟩
  | .hbm, ⟨81, _⟩ => ⟨S1024x1024, .i32⟩
  | .hbm, ⟨82, _⟩ => ⟨S1024x1024, .i1⟩
  | .hbm, ⟨83, _⟩ => ⟨S1024x1024, .i1⟩
  | .hbm, ⟨84, _⟩ => ⟨S1x32x1024x1024, .f32⟩
  | .hbm, ⟨85, _⟩ => ⟨S_, .f32⟩
  | .hbm, ⟨86, _⟩ => ⟨S1x32x1024x1024, .f32⟩
  | .hbm, ⟨87, _⟩ => ⟨S1x32x1024x1024, .f32⟩
  | .hbm, ⟨88, _⟩ => ⟨S1x1x1024x1024, .i1⟩
  | .hbm, ⟨89, _⟩ => ⟨S_, .f32⟩
  | .hbm, ⟨90, _⟩ => ⟨S_, .f32⟩
  | .hbm, ⟨91, _⟩ => ⟨S1x32x1024x1024, .i1⟩
  | .hbm, ⟨92, _⟩ => ⟨S1x32x1024x1024, .f32⟩
  | .hbm, ⟨93, _⟩ => ⟨S1x32x1024x1024, .f32⟩
  | .hbm, ⟨94, _⟩ => ⟨S_, .f32⟩
  | .hbm, ⟨95, _⟩ => ⟨S1x32x1024, .f32⟩
  | .hbm, ⟨96, _⟩ => ⟨S1x32x1024x1, .f32⟩
  | .hbm, ⟨97, _⟩ => ⟨S1x32x1024x1024, .f32⟩
  | .hbm, ⟨98, _⟩ => ⟨S1x32x1024x1024, .f32⟩
  | .hbm, ⟨99, _⟩ => ⟨S1x32x1024x1024, .f32⟩
  | .hbm, ⟨100, _⟩ => ⟨S_, .i1⟩
  | .hbm, ⟨101, _⟩ => ⟨S1024, .i1⟩
  | .hbm, ⟨102, _⟩ => ⟨S1x1x1024x1, .i1⟩
  | .hbm, ⟨103, _⟩ => ⟨S_, .f32⟩
  | .hbm, ⟨104, _⟩ => ⟨S1x32x1024, .f32⟩
  | .hbm, ⟨105, _⟩ => ⟨S1x32x1024x1, .f32⟩
  | .hbm, ⟨106, _⟩ => ⟨S_, .f32⟩
  | .hbm, ⟨107, _⟩ => ⟨S_, .f32⟩
  | .hbm, ⟨108, _⟩ => ⟨S1x32x1024x1, .i1⟩
  | .hbm, ⟨109, _⟩ => ⟨S1x32x1024x1, .f32⟩
  | .hbm, ⟨110, _⟩ => ⟨S1x32x1024x1, .f32⟩
  | .hbm, ⟨111, _⟩ => ⟨S1x32x1024x1024, .f32⟩
  | .hbm, ⟨112, _⟩ => ⟨S1x32x1024x1024, .f32⟩
  | .hbm, ⟨113, _⟩ => ⟨S1x1x1024x1, .i1⟩
  | .hbm, ⟨114, _⟩ => ⟨S_, .f32⟩
  | .hbm, ⟨115, _⟩ => ⟨S_, .f32⟩
  | .hbm, ⟨116, _⟩ => ⟨S1x32x1024x1024, .i1⟩
  | .hbm, ⟨117, _⟩ => ⟨S1x32x1024x1024, .f32⟩
  | .hbm, ⟨118, _⟩ => ⟨S1x32x1024x1024, .f32⟩
  | .hbm, ⟨119, _⟩ => ⟨S1x32x128x1024, .f32⟩
  | .hbm, ⟨120, _⟩ => ⟨S1x1024x32x128, .f32⟩
  | .hbm, ⟨121, _⟩ => ⟨S1x1024x4096, .f32⟩
  | .hbm, ⟨122, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Open.lean ====
/- The kernel's body with every printed part put in place of its call. -/
module

public import proofs.«01_k».proof.Proof.Gen.KernelIdeal.Skeleton
public import Idealize.ShloMosaic.Lib.Tactic.OpenCalls
public import Idealize.ShloMosaic.Lib.Tactic.Stretches

@[expose] public section

set_option maxRecDepth 65536
set_option maxHeartbeats 40000000

noncomputable section

namespace Cert.KernelIdeal.Run

open Idealize.ShloMosaic Idealize.ShloMosaic.TcCoe
open Cert.KernelIdeal

open_calls body := cc0_body
  [k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40, k0_part41]

end Cert.KernelIdeal.Run

end
-- ==== Proof.Cut.lean ====
/- The body cut at the points where the devices meet: stretches of plain loads and stores between them. -/
module

public import proofs.«01_k».proof.Proof.Open

@[expose] public section

set_option maxRecDepth 65536
set_option maxHeartbeats 40000000

noncomputable section

namespace Cert.KernelIdeal.Run

open Idealize.ShloMosaic Idealize.SL.Sem
open Cert.KernelIdeal Cert.KernelIdeal.Gen

cut_chain s := body at 7, 151, 155, 189, 191, 192, 257, 259, 262, 266, 267, 332, 334, 337, 341, 344, 346, 358, 360, 364, 367, 369, 379, 381, 383

end Cert.KernelIdeal.Run

end
-- ==== Proof.Proto.lean ====
/- The protocol of the kernel's remote copies: which device talks to which, the pieces of the two exchange buffers,
   the cells (one barrier, two local-copy, six send and six receive semaphores on each device), what each cell hands
   over, and the order in which cells are waited on. -/
module

public import proofs.«01_k».proof.Proof.Gen.KernelIdeal.Launch
public import Idealize.ShloMosaic.Lib.Rounds
public import Idealize.ShloMosaic.Lib.Tactic

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}

/-! ## The resource algebra -/

/-- The pipeline library's copy of the rounds algebra, and the exchange protocol's with two names of duties. -/
abbrev UX : Type := URounds (GSem nD τ sig) Bool
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-! ## Who talks to whom -/

/-- The other device of the pair {0,1} or {2,3}. -/
def pa : Dev nD → Dev nD := fun c => ⟨(![1, 0, 3, 2] : Fin 4 → ℕ) c, by revert c; decide⟩
/-- The other device of the pair {0,3} or {1,2}. -/
def pb : Dev nD → Dev nD := fun c => ⟨(![3, 2, 1, 0] : Fin 4 → ℕ) c, by revert c; decide⟩
theorem pa_pa (c : Dev nD) : pa (pa c) = c := by revert c; decide
theorem pb_pb (c : Dev nD) : pb (pb c) = c := by revert c; decide

/-- Piece `i` of an exchange buffer is phase `i / 3`, row group `i % 3`; its partner alternates. -/
def prt (i : Fin 6) (c : Dev nD) : Dev nD := if i.val % 2 = 0 then pa c else pb c
theorem prt_prt (i : Fin 6) (c : Dev nD) : prt i (prt i c) = c := by revert i c; decide

/-! ## Pieces of the exchange buffers -/

abbrev sM : Memref sig .tc .vmem S2x1024x1024 .bf16 := Memref.whole cc0_scratch4
abbrev rM : Memref sig .tc .vmem S2x1024x1024 .bf16 := Memref.whole cc0_scratch5
abbrev wqM : Memref sig .tc .vmem S1024x1024 .f32 := Memref.whole cc0_scratch6
abbrev woM : Memref sig .tc .vmem S1024x1024 .f32 := Memref.whole cc0_scratch7

abbrev pShape3 : Fin 6 → Shape := ![S1x384x1024, S1x320x1024, S1x320x1024, S1x384x1024, S1x320x1024, S1x320x1024]
abbrev pShape : Fin 6 → Shape := ![S384x1024, S320x1024, S320x1024, S384x1024, S320x1024, S320x1024]

/-- The rows of piece `i`. -/
abbrev pRect : Fin 6 → Rect S2x1024x1024
  | 0 => Rect.unit ![0, 0, 0] S1x384x1024.size inb_S2x1024x1024_S1x384x1024_0_0_0
  | 1 => Rect.unit ![0, 384, 0] S1x320x1024.size inb_S2x1024x1024_S1x320x1024_0_384_0
  | 2 => Rect.unit ![0, 704, 0] S1x320x1024.size inb_S2x1024x1024_S1x320x1024_0_704_0
  | 3 => Rect.unit ![1, 0, 0] S1x384x1024.size inb_S2x1024x1024_S1x384x1024_1_0_0
  | 4 => Rect.unit ![1, 384, 0] S1x320x1024.size inb_S2x1024x1024_S1x320x1024_1_384_0
  | 5 => Rect.unit ![1, 704, 0] S1x320x1024.size inb_S2x1024x1024_S1x320x1024_1_704_0

/-- The elements of piece `i` of the sent buffer and of the received one. -/
abbrev sSet (i : Fin 6) := (sM.access (pRect i)).set
abbrev rSet (i : Fin 6) := (rM.access (pRect i)).set

/-- Contents of an exchange buffer, of the query weights and of the output weights. -/
abbrev XBuf (F : FTy → Type) : Type := S2x1024x1024.Idx → Elt F .bf16
abbrev WBuf (F : FTy → Type) : Type := S1024x1024.Idx → Elt F .f32

/-- Device `c`'s piece `i` of the sent (received) buffer holds what `f` holds there. -/
def sP (i : Fin 6) (c : Dev nD) (f : XBuf F) : sProp 𝕄 := (sM.view.loc (c : Thread nD τ)) ↦[sSet i]{fullShare} f
def rP (i : Fin 6) (c : Dev nD) (f : XBuf F) : sProp 𝕄 := (rM.view.loc (c : Thread nD τ)) ↦[rSet i]{fullShare} f

/-- The blocks of the two weight arrays device `c` copies in. -/
abbrev wqV (c : Dev nD) : Memref sig .tc .hbm S1024x1024 .f32 :=
  (Memref.whole main_arg1).slice (Rect.unit (s := S1024x4096) (k0_off1 c) S1024x1024.size (k0_off1_inb c)) (fun _ => rfl)
abbrev woV (c : Dev nD) : Memref sig .tc .hbm S1024x1024 .f32 :=
  (Memref.whole main_arg4).slice (Rect.unit (s := S4096x1024) (k0_off2 c) S1024x1024.size (k0_off2_inb c)) (fun _ => rfl)

/-! ## Cells -/

abbrev barS : Sem sig := 0
theorem sig_nDmaSem : sig.nDmaSem = 18 := rfl
abbrev osem (k : Fin 14) : SemLoc sig := .dma ⟨4 + k.val, by have := k.isLt; have := sig_nDmaSem; omega⟩
abbrev cpK (j : Fin 2) : Fin 14 := ⟨j.val, by omega⟩
abbrev sndK (i : Fin 6) : Fin 14 := ⟨2 + i.val, by omega⟩
abbrev rcvK (i : Fin 6) : Fin 14 := ⟨8 + i.val, by omega⟩

abbrev barCell (c : Dev nD) : GSem nD τ sig := ((c : Thread nD τ), .reg barS)
abbrev oCell (k : Fin 14) (c : Dev nD) : GSem nD τ sig := ((c : Thread nD τ), osem k)

/-- Which of the fourteen scoped cells a semaphore is. -/
def tag : SemLoc sig → Option (Fin 14)
  | .reg _ => none
  | .dma s => if h : 4 ≤ s.val then some ⟨s.val - 4, by have := s.isLt; have := sig_nDmaSem; omega⟩ else none

theorem tag_osem (k : Fin 14) : tag (osem k) = some k := by revert k; decide
theorem tag_bar : tag (.reg barS) = none := rfl

/-- What one transfer of the cell's kind moves, in the credit its semaphore counts. -/
def amt (k : Fin 14) : ℕ :=
  if k.val < 2 then wqM.view.dmaCredit
  else if k.val % 3 = 2 then ((rM.slice (pRect 0) (fun _ => rfl)).squeeze S384x1024 squeezes_S1x384x1024_S384x1024).view.dmaCredit
  else ((rM.slice (pRect 1) (fun _ => rfl)).squeeze S320x1024 squeezes_S1x320x1024_S320x1024).view.dmaCredit

theorem amt_pos (k : Fin 14) : 0 < amt k := by
  unfold amt
  split
  · exact View.dmaCredit_pos _ (by decide)
  · split <;> exact View.dmaCredit_pos _ (by decide)

section Sched

variable (SB : Dev nD → XBuf F) (WQ WO : Dev nD → WBuf F)
  (HQ : (c : Dev nD) → Buf (Elt F) ((c : Thread nD τ).loc main_arg1)) (HO : (c : Dev nD) → Buf (Elt F) ((c : Thread nD τ).loc main_arg4))

/-- The pieces of `d`'s received buffer that `c` may write, one of each parity, with the receive cells that are open. -/
def barPay (d : Dev nD) (e : Bool) : sProp 𝕄 :=
  bigSep (Finset.univ.filter fun i : Fin 6 => i.val % 2 = e.toNat) fun i =>
    iprop((∃ f, rP i d f) ∗ reached ER (oCell (rcvK i) d) 0)

/-- What a scoped cell of device `c` hands over: the copied block and its source, the sent piece back, or the piece received. -/
def oPay (k : Fin 14) (c : Dev nD) : sProp 𝕄 :=
  if k.val = 0 then iprop((wqM.view.loc (c : Thread nD τ) ↦[wqM.view.set]{fullShare} WQ c)
    ∗ ((wqV c).view.loc (c : Thread nD τ) ↦[(wqV c).view.set]{fullShare} HQ c))
  else if k.val = 1 then iprop((woM.view.loc (c : Thread nD τ) ↦[woM.view.set]{fullShare} WO c)
    ∗ ((woV c).view.loc (c : Thread nD τ) ↦[(woV c).view.set]{fullShare} HO c))
  else if h : k.val < 8 then sP ⟨k.val - 2, by omega⟩ c (SB c)
  else rP ⟨k.val - 8, by omega⟩ c (SB (prt ⟨k.val - 8, by omega⟩ c))

/-- One round: two duties on a barrier cell (one from each partner), one on every scoped cell. -/
def rd : Rounds.Schedule (GSem nD τ sig) Bool 𝕄 where
  duties g r := if r = 0 ∧ g.1.2 = .tc then
      (if g.2 = .reg barS then Finset.univ else if (tag g.2).isSome then {false} else ∅) else ∅
  unitless _ := False
  amount g _ _ := match tag g.2 with | none => 1 | some k => amt k
  payload g _ e := match tag g.2 with
    | none => if g.2 = .reg barS then barPay (if e then pb g.1.1 else pa g.1.1) e else iprop(emp)
    | some k => oPay SB WQ WO HQ HO k g.1.1
  amount_pos g _ _ _ := by
    split
    · exact Nat.one_pos
    · exact amt_pos _

local notation "𝓡" => rd (F := F) SB WQ WO HQ HO

instance rd_payload_storable (g : GSem nD τ sig) (r : ℕ) (d : Bool) : BI.Storable (upEmb : UEmb _ 𝕄) ((𝓡).payload g r d) := by
  dsimp only [rd]
  split
  · split
    · unfold barPay rP; infer_instance
    · infer_instance
  · unfold oPay sP rP
    (repeat' split) <;> infer_instance

variable (c : Dev nD)

theorem duties_bar : (𝓡).duties (barCell c) 0 = Finset.univ := by
  dsimp only [rd]; rw [if_pos ⟨rfl, rfl⟩, if_pos rfl]
theorem duties_o (k : Fin 14) : (𝓡).duties (oCell k c) 0 = {false} := by
  dsimp only [rd]; rw [if_pos ⟨rfl, rfl⟩, if_neg (fun h => by cases h), tag_osem]; rfl
theorem duties_later (g : GSem nD τ sig) : ∀ r, 0 + 1 ≤ r → (𝓡).duties g r = ∅ :=
  fun r hr => by dsimp only [rd]; rw [if_neg (fun h => by omega)]

theorem amount_bar (e : Bool) : (𝓡).amount (barCell c) 0 e = 1 := rfl
theorem amount_o (k : Fin 14) (e : Bool) : (𝓡).amount (oCell k c) 0 e = amt k := by
  dsimp only [rd]; rw [tag_osem]

theorem expect_bar : (𝓡).expect (barCell c) 0 = 2 := by
  unfold Schedule.expect Schedule.amountOf; rw [duties_bar]; rfl
theorem expect_o (k : Fin 14) : (𝓡).expect (oCell k c) 0 = amt k := by
  unfold Schedule.expect Schedule.amountOf; rw [duties_o, Finset.sum_singleton, amount_o]

theorem payload_bar (e : Bool) : (𝓡).payload (barCell c) 0 e = barPay (if e then pb c else pa c) e := by
  dsimp only [rd]; rw [tag_bar]; dsimp only; rw [if_pos rfl]
theorem payload_o (k : Fin 14) (e : Bool) : (𝓡).payload (oCell k c) 0 e = oPay SB WQ WO HQ HO k c := by
  dsimp only [rd]; rw [tag_osem]

theorem rest_bar : bigSep ((𝓡).duties (barCell c) 0 \ ∅) (fun e => (𝓡).payload (barCell c) 0 e)
    = iprop(barPay (F := F) (pa c) false ∗ barPay (pb c) true) := by
  rw [Finset.sdiff_empty, duties_bar, show (Finset.univ : Finset Bool) = {false, true} from by decide,
    bigSep_insert (by decide), bigSep_singleton, payload_bar, payload_bar]; rfl
theorem rest_o (k : Fin 14) : bigSep ((𝓡).duties (oCell k c) 0 \ ∅) (fun e => (𝓡).payload (oCell k c) 0 e)
    = oPay SB WQ WO HQ HO k c := by
  rw [Finset.sdiff_empty, duties_o, bigSep_singleton, payload_o]

theorem oPay_snd (i : Fin 6) : oPay SB WQ WO HQ HO (sndK i) c = sP i c (SB c) := by
  unfold oPay
  rw [if_neg (by simp only; omega), if_neg (by simp only; omega), dif_pos (by simp only; omega)]
  congr 1; exact Fin.ext (by simp only; omega)
theorem oPay_rcv (i : Fin 6) : oPay SB WQ WO HQ HO (rcvK i) c = rP i c (SB (prt i c)) := by
  unfold oPay
  rw [if_neg (by simp only; omega), if_neg (by simp only; omega), dif_neg (by simp only; omega)]
  have : (⟨(rcvK i).val - 8, by omega⟩ : Fin 6) = i := Fin.ext (by simp only; omega)
  rw [this]

end Sched

/-! ## What is owed, and the levels -/

/-- The receive credits of the pieces in `s`, each at the partner it goes to. -/
def oweR (s : Finset (Fin 6)) (c : Dev nD) : CellTallies nD τ sig Unit :=
  ∑ i ∈ s, tallyAt (oCell (rcvK i) (prt i c)) () (amt (rcvK i))

/-- At launch: the six receive credits and the two barrier units. -/
def O₀ (c : Dev nD) : CellTallies nD τ sig Unit :=
  oweR Finset.univ c + tallyAt (barCell (pb c)) () 1 + tallyAt (barCell (pa c)) () 1

def L (g : GSem nD τ sig) : Finset Unit := if g.1.2 = .tc then {()} else ∅
/-- The barrier at 1, the receive cell of piece `i` at `2 + i`, everything else at 0. -/
def lv (g : GSem nD τ sig) (_ : Unit) : ℕ :=
  match tag g.2 with
  | none => if g.2 = .reg barS then 1 else 0
  | some k => if k.val < 8 then 0 else k.val - 6

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_rcv (i : Fin 6) (c : Dev nD) (u : Unit) : lv (oCell (rcvK i) c) u = 2 + i.val := by
  unfold lv; rw [tag_osem]; dsimp only; rw [if_neg (by omega)]; omega
theorem lv_low (k : Fin 14) (h : k.val < 8) (c : Dev nD) (u : Unit) : lv (oCell k c) u = 0 := by
  unfold lv; rw [tag_osem]; dsimp only; rw [if_pos h]

theorem tally_pos {g g' : GSem nD τ sig} {n : ℕ} {u : Unit} (h : 0 < (tallyAt g' () n : CellTallies nD τ sig Unit) g u) : g = g' := by
  rw [tallyAt_apply] at h
  split at h
  · next hg => exact hg.1
  · exact absurd h (Nat.lt_irrefl 0)

/-- What `oweR s` owes is owed at receive cells of the pieces in `s`. -/
theorem oweR_pos {s : Finset (Fin 6)} {c : Dev nD} {g : GSem nD τ sig} {u : Unit} (h : 0 < oweR s c g u) :
    ∃ i ∈ s, g = oCell (rcvK i) (prt i c) := by
  unfold oweR at h
  rw [Finset.sum_apply, Finsupp.finset_sum_apply] at h
  obtain ⟨i, hi, hp⟩ := Finset.exists_ne_zero_of_sum_ne_zero (Nat.pos_iff_ne_zero.mp h)
  exact ⟨i, hi, tally_pos (Nat.pos_iff_ne_zero.mpr hp)⟩

theorem oweR_insert {i : Fin 6} {s : Finset (Fin 6)} (h : i ∉ s) (c : Dev nD) :
    oweR (insert i s) c = oweR s c + tallyAt (oCell (rcvK i) (prt i c)) () (amt (rcvK i)) := by
  unfold oweR; rw [Finset.sum_insert h, add_comm]

/-- A wait on cell `sm`, while the pieces in `s` are still to be sent, respects the levels. -/
theorem mayWait (c : Dev nD) (sm : SemLoc sig) (s : Finset (Fin 6)) (b : ℕ) (hb : lv ((c : Thread nD τ), sm) () = b)
    (hs : ∀ i ∈ s, b < 2 + i.val) :
    (levAts L lv : sProp 𝕄) ⊢ MayWait (c : Thread nD τ) sm () (oweR s c) :=
  MayOwe.of_cut (L := L) (lev := lv) b (fun p hp => by rw [Finset.mem_singleton.mp hp, L_tc]; exact Finset.mem_singleton_self _)
    (fun g u hg => by
      obtain ⟨i, -, rfl⟩ := oweR_pos hg
      rw [L_tc]; exact Finset.mem_singleton_self _)
    (fun p hp => by rw [Finset.mem_singleton.mp hp]; exact hb.le)
    (fun g u hg => by
      obtain ⟨i, hi, rfl⟩ := oweR_pos hg
      rw [lv_rcv]; exact hs i hi)

end Cert.KernelIdeal.Run

end
-- ==== Proof.Val.lean ====
/- What the kernel's buffers hold, as functions of the contents of the blocks a device reads. -/
module

public import proofs.«01_k».proof.Proof.Proto
public import Idealize.ShloMosaic.Lib.Pointwise.Index

@[expose] public section

set_option maxRecDepth 65536

noncomputable section

namespace Cert.KernelIdeal.Run

open Idealize.ShloMosaic Idealize.ShloMosaic.TcCoe
open Cert.KernelIdeal Cert.KernelIdeal.Gen

variable {F : FTy → Type} [FloatOps F]

/-! ## The permuted copies -/

/-- The block of 64 rows that the kernel puts at each of the sixteen places: those ≡ 0 mod 3, then ≡ 1, then ≡ 2. -/
def blkAt : Fin 16 → Fin 16 := ![0, 3, 6, 9, 12, 15, 1, 4, 7, 10, 13, 2, 5, 8, 11, 14]
/-- The row of the block's array that row `r` of the permuted copy comes from. -/
def rowAt (r : Fin 1024) : Fin 1024 := ⟨(blkAt ⟨r.val / 64, by omega⟩).val * 64 + r.val % 64, by omega⟩
/-- Where each block of 64 rows lies in the permuted copy. -/
def blkOf : Fin 16 → Fin 16 := ![0, 6, 11, 1, 7, 12, 2, 8, 13, 3, 9, 14, 4, 10, 15, 5]
def rowOf (r : Fin 1024) : Fin 1024 := ⟨(blkOf ⟨r.val / 64, by omega⟩).val * 64 + r.val % 64, by omega⟩

/-- The rounded, permuted copy of an array of 1024 rows. -/
def permuted (X : Vec F S1024x1024 .f32) : Vec F S1024x1024 .bf16 :=
  fun y => truncf .bf16 X bitsLt_bf16_f32 (ix2 (rowAt (y 0)) (y 1))

/-! ## One head -/

/-- Rows `r …` of head `h`'s 128 columns. -/
def blk {α : Type} (n r : ℕ) (hr : r + n ≤ 1024) (h : Fin 8) (X : S1024x1024.Idx → α) (z : (⟨2, ![n, 128]⟩ : Shape).Idx) : α :=
  X (ix2 ⟨r + (z 0).val, by have := (z 0).isLt; simp only [Matrix.cons_val_zero] at this; omega⟩
    ⟨h.val * 128 + (z 1).val, by have := (z 1).isLt; simp only [Matrix.cons_val_one, Matrix.cons_val_zero] at this; omega⟩)

/-- The projected, scaled queries of the permuted rows, and the rounded weights. -/
def qV (x : Vec F S1024x1024 .bf16) (wq : Vec F S1024x1024 .f32) : Vec F S1024x1024 .bf16 :=
  truncf .bf16 (mulf (matmul dot_S1024x1024_S1024x1024_S1024x1024_1_0_0_1_n_n none x (truncf .bf16 wq bitsLt_bf16_f32)
    (constant S1024x1024 .f32 0x00000000#32)) (broadcast S1024x1024 (FloatOps.ofBits .f32 1035273459#32))) bitsLt_bf16_f32

/-- One head of the rows ≡ 0: every row attends to the 384 rows of its own group. -/
def hd0 (q k v : Vec F S384x128 .bf16) : Vec F S384x128 .bf16 :=
  have e : FVec F S384x384 .f32 := exp (matmul dot_S384x128_S384x128_S384x384_1_1_0_0_n_n none q k (constant S384x384 .f32 0x00000000#32))
  have d : FVec F S384x1 .f32 := shapeCast S384x1 (multiReduction .add [1] S384 e 0x00000000#32 reduces_S384x384_S384 (.inl rfl) rfl) shapeCasts_S384_S384x1
  truncf .bf16 (mulf
    (matmul dot_S384x384_S384x128_S384x128_1_0_0_1_n_n none (truncf .bf16 e bitsLt_bf16_f32) v (constant S384x128 .f32 0x00000000#32))
    (broadcastTo S384x128 (divf (broadcast S384x1 (FloatOps.ofBits .f32 1065353216#32)) d) broadcasts_S384x1_S384x128)) bitsLt_bf16_f32

/-- One head of another group: every row attends to the 320 rows of the third group, to the first block of 64 and to its own block. -/
def hd1 (q k v : Vec F S320x128 .bf16) (k0 v0 : Vec F S64x128 .bf16) (kd vd : Vec F S320x128 .bf16) : Vec F S320x128 .bf16 :=
  have e : FVec F S320x320 .f32 := exp (matmul dot_S320x128_S320x128_S320x320_1_1_0_0_n_n none q k (constant S320x320 .f32 0x00000000#32))
  have e0 : FVec F S320x64 .f32 := exp (matmul dot_S320x128_S64x128_S320x64_1_1_0_0_n_n none q k0 (constant S320x64 .f32 0x00000000#32))
  have ed : FVec F S5x64x64 .f32 := exp (matmul dot_S5x64x128_S5x64x128_S5x64x64_2_2_1_1_0_0 none
    (shapeCast S5x64x128 q shapeCasts_S320x128_S5x64x128) (shapeCast S5x64x128 kd shapeCasts_S320x128_S5x64x128) (constant S5x64x64 .f32 0x00000000#32))
  have d : FVec F S320x1 .f32 := addf (addf
    (shapeCast S320x1 (multiReduction .add [1] S320 e 0x00000000#32 reduces_S320x320_S320 (.inl rfl) rfl) shapeCasts_S320_S320x1)
    (shapeCast S320x1 (multiReduction .add [1] S320 e0 0x00000000#32 reduces_S320x64_S320 (.inl rfl) rfl) shapeCasts_S320_S320x1))
    (shapeCast S320x1 (multiReduction .add [2] S5x64 ed 0x00000000#32 reduces_S5x64x64_S5x64 (.inl rfl) rfl) shapeCasts_S5x64_S320x1)
  truncf .bf16 (mulf (addf (addf
    (matmul dot_S320x320_S320x128_S320x128_1_0_0_1_n_n none (truncf .bf16 e bitsLt_bf16_f32) v (constant S320x128 .f32 0x00000000#32))
    (matmul dot_S320x64_S64x128_S320x128_1_0_0_1_n_n none (truncf .bf16 e0 bitsLt_bf16_f32) v0 (constant S320x128 .f32 0x00000000#32)))
    (shapeCast S320x128 (matmul dot_S5x64x64_S5x64x128_S5x64x128_2_1_1_2_0_0 none (truncf .bf16 ed bitsLt_bf16_f32)
      (shapeCast S5x64x128 vd shapeCasts_S320x128_S5x64x128) (constant S5x64x128 .f32 0x00000000#32)) shapeCasts_S5x64x128_S320x128))
    (broadcastTo S320x128 (divf (broadcast S320x1 (FloatOps.ofBits .f32 1065353216#32)) d) broadcasts_S320x1_S320x128)) bitsLt_bf16_f32

/-! ## The heads side by side, and the partial products -/

abbrev headOf (j : Fin 1024) : Fin 8 := ⟨j.val / 128, by omega⟩
abbrev colOf (j : Fin 1024) : Fin 128 := ⟨j.val % 128, by omega⟩

def ctx0 (q k v : Vec F S1024x1024 .bf16) : Vec F S384x1024 .bf16 := fun y =>
  have h := headOf (y 1)
  hd0 (blk 384 0 (by omega) h q) (blk 384 0 (by omega) h k) (blk 384 0 (by omega) h v) (ix2 (y 0) (colOf (y 1)))

/-- The group whose own rows start at `d`, the third group's at `g`. -/
def ctx1 (d g : ℕ) (hd : d + 320 ≤ 1024) (hg : g + 320 ≤ 1024) (q k v : Vec F S1024x1024 .bf16) : Vec F S320x1024 .bf16 := fun y =>
  have h := headOf (y 1)
  hd1 (blk 320 d hd h q) (blk 320 g hg h k) (blk 320 g hg h v) (blk 64 0 (by omega) h k) (blk 64 0 (by omega) h v)
    (blk 320 d hd h k) (blk 320 d hd h v) (ix2 (y 0) (colOf (y 1)))

def out384 (x : Vec F S384x1024 .bf16) (wo : Vec F S1024x1024 .f32) : Vec F S384x1024 .bf16 :=
  truncf .bf16 (matmul dot_S384x1024_S1024x1024_S384x1024_1_0_0_1_n_n none x (truncf .bf16 wo bitsLt_bf16_f32)
    (constant S384x1024 .f32 0x00000000#32)) bitsLt_bf16_f32
def out320 (x : Vec F S320x1024 .bf16) (wo : Vec F S1024x1024 .f32) : Vec F S320x1024 .bf16 :=
  truncf .bf16 (matmul dot_S320x1024_S1024x1024_S320x1024_1_0_0_1_n_n none x (truncf .bf16 wo bitsLt_bf16_f32)
    (constant S320x1024 .f32 0x00000000#32)) bitsLt_bf16_f32

/-- One device's part of the result, rows permuted: what its eight heads contribute. -/
def part (q k v : Vec F S1024x1024 .bf16) (wo : Vec F S1024x1024 .f32) : Vec F S1024x1024 .bf16 := fun y =>
  if h0 : (y 0).val < 384 then out384 (ctx0 q k v) wo (ix2 ⟨(y 0).val, h0⟩ (y 1))
  else if h1 : (y 0).val < 704 then
    out320 (ctx1 384 704 (by omega) (by omega) q k v) wo (ix2 ⟨(y 0).val - 384, by omega⟩ (y 1))
  else out320 (ctx1 704 384 (by omega) (by omega) q k v) wo (ix2 ⟨(y 0).val - 704, by have := (y 0).isLt; simp only [Matrix.cons_val_zero] at this; omega⟩ (y 1))

/-! ## The two exchanges -/

/-- The row group of row `r` of the permuted arrays. -/
def grp (r : Fin 1024) : Fin 3 := if r.val < 384 then 0 else if r.val < 704 then 1 else 2
/-- Whose part is added in phase 1, and whose sum in phase 2. -/
def prt1 (r : Fin 1024) (c : Dev nD) : Dev nD := prt ⟨(grp r).val, by omega⟩ c
def prt2 (r : Fin 1024) (c : Dev nD) : Dev nD := prt ⟨3 + (grp r).val, by omega⟩ c

variable (PP : Dev nD → Vec F S1024x1024 .bf16)

/-- The sum after phase 1. -/
def sum1 (c : Dev nD) : Vec F S1024x1024 .bf16 := fun y => addf (PP c) (PP (prt1 (y 0) c)) y

/-- What device `c` sends: its part in phase 0 of the buffer, the sum in phase 1. -/
def sbV (c : Dev nD) : XBuf F := fun y => if (y 0).val = 0 then PP c (ix2 (y 1) (y 2)) else sum1 PP c (ix2 (y 1) (y 2))

/-- The result, its rows back in place. -/
def outV (c : Dev nD) : Vec F S1024x1024 .f32 := fun y =>
  addf (extf .f32 (sum1 PP c) bitsLt_bf16_f32) (extf .f32 (sum1 PP (prt2 (rowOf (y 0)) c)) bitsLt_bf16_f32) (ix2 (rowOf (y 0)) (y 1))

end Cert.KernelIdeal.Run

end
-- ==== Proof.RunCopy.lean ====
/- The stretch that copies x, K and V, rounded and permuted by blocks of 64 rows, into the scratch buffers. -/
module

public import proofs.«01_k».proof.Proof.Cut
public import proofs.«01_k».proof.Proof.Val
public import Idealize.ShloMosaic.Lib.PointwiseCore

@[expose] public section

set_option maxRecDepth 65536
set_option maxHeartbeats 4000000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

abbrev 𝒱₀ : Variants := Variants.none

abbrev xS : Memref sig .tc .vmem S1024x1024 .f32 := Memref.whole cc0_stg0_0
abbrev kS : Memref sig .tc .vmem S1024x1024 .f32 := Memref.whole cc0_stg1_0
abbrev vS : Memref sig .tc .vmem S1024x1024 .f32 := Memref.whole cc0_stg2_0
abbrev oS : Memref sig .tc .vmem S1024x1024 .f32 := Memref.whole cc0_stg3_0
abbrev cM : Memref sig .tc .vmem S384x1024 .bf16 := Memref.whole cc0_scratch0
abbrev xM : Memref sig .tc .vmem S1024x1024 .bf16 := Memref.whole cc0_scratch1
abbrev kM : Memref sig .tc .vmem S1024x1024 .bf16 := Memref.whole cc0_scratch2
abbrev vM : Memref sig .tc .vmem S1024x1024 .bf16 := Memref.whole cc0_scratch3

omit [FloatOps F] in
/-- Writes to a whole buffer that all agree with `G` and cover it leave `G`. -/
theorem writes_eq (b : Ref sig .tc) (f G : b.ty.Contents (Elt F)) (L : List (View.Piece (Elt F) b.ty.shape b.ty.elt))
    (hG : ∀ p ∈ L, ∀ x : p.1.shape.Idx, p.2 x = G (p.1.emb x)) (hc : ∀ y, ∃ p ∈ L, y ∈ p.1.set) :
    (Memref.whole b : Memref sig .tc _ b.ty.shape b.ty.elt).view.writes (Elt F) f L = G :=
  funext fun y => View.read_writes_apply_of_pieces (Memref.whole b : Memref sig .tc _ b.ty.shape b.ty.elt).view f G L hG y (hc y)

theorem emb_val {s : Shape} (off size : Fin s.rank → ℕ) (inb) (j : (Rect.unit (s := s) off size inb).shape.Idx) (a : Fin s.rank) :
    ((Rect.unit (s := s) off size inb).emb j a).val = off a + (j a).val := by
  rw [Rect.emb_apply]; show off a + 1 * (j a).val = _; omega

theorem rowAt_block (i : Fin 16) (r : Fin 1024) (k : ℕ) (hk : k < 64) (hr : r.val = 64 * i.val + k) :
    (rowAt r).val = 64 * (blkAt i).val + k := by
  have d : (⟨r.val / 64, by omega⟩ : Fin 16) = i := Fin.ext (by simp only; omega)
  unfold rowAt
  simp only [d]
  omega

/-- One block of 64 rows of the permuted copy. -/
theorem perm_piece (i : Fin 16) (X : Vec F S1024x1024 .f32) (inb : ∀ a, (![64 * (blkAt i).val, 0] : Fin 2 → ℕ) a + S64x1024.size a ≤ S1024x1024.size a)
    (inb' : ∀ a, (![64 * i.val, 0] : Fin 2 → ℕ) a + S64x1024.size a ≤ S1024x1024.size a)
    (h₁ : S64x1024.ShapeCasts S64x1024) (h₂ : FTy.bf16.bits < FTy.f32.bits) (h₃ : S64x1024.ShapeCasts S64x1024) (x : S64x1024.Idx) :
    shapeCast S64x1024 (truncf .bf16 (shapeCast S64x1024
        (fun z => X ((Rect.unit (s := S1024x1024) ![64 * (blkAt i).val, 0] S64x1024.size inb).emb z)) h₁) h₂) h₃ x
      = permuted X ((Rect.unit (s := S1024x1024) ![64 * i.val, 0] S64x1024.size inb').emb x) := by
  unfold permuted
  pointwise
  congr 2
  refine (eq_ix2 _).trans ?_
  have h0 : (x 0).val < 64 := (x 0).isLt
  congr 1 <;> apply Fin.ext
  · exact (emb_val _ _ _ _ _).trans (rowAt_block i _ (x 0).val h0 (emb_val _ _ _ _ _)).symm

theorem inb_blk (i : Fin 16) : ∀ a, (![64 * i.val, 0] : Fin 2 → ℕ) a + S64x1024.size a ≤ S1024x1024.size a := by revert i; decide

/-- The sixteen stores of one permuted copy, the last first. -/
def copyL (X : Vec F S1024x1024 .f32) : List (View.Piece (Elt F) S1024x1024 .bf16) :=
  ([15, 14, 13, 12, 11, 10, 9, 8, 7, 6, 5, 4, 3, 2, 1, 0] : List (Fin 16)).map fun i =>
    ⟨Rect.unit (s := S1024x1024) ![64 * i.val, 0] S64x1024.size (inb_blk i),
      shapeCast S64x1024 (truncf .bf16 (shapeCast S64x1024
        (fun z => X ((Rect.unit (s := S1024x1024) ![64 * (blkAt i).val, 0] S64x1024.size (inb_blk (blkAt i))).emb z))
        shapeCasts_S64x1024_S64x1024) bitsLt_bf16_f32) shapeCasts_S64x1024_S64x1024⟩

theorem copyL_agree (X : Vec F S1024x1024 .f32) : ∀ p ∈ copyL X, ∀ x : p.1.shape.Idx, p.2 x = permuted X (p.1.emb x) := by
  intro p hp
  obtain ⟨i, -, rfl⟩ := List.mem_map.mp hp
  exact fun x => perm_piece i X (inb_blk _) (inb_blk i) _ _ _ x

theorem copyL_cover (X : Vec F S1024x1024 .f32) : ∀ y, ∃ p ∈ copyL X, y ∈ p.1.set :=
  View.cover_of_tiled (copyL X) S64x1024.size rfl

theorem copy_blocks (c : Dev nD) (fx fk fv : Vec F S1024x1024 .f32) (gx gk gv : Vec F S1024x1024 .bf16)
    {R : Type} (κ : Prog (TpuEff nD τ sig (Elt F) Λ₀ .tc) R) (Q : R → sProp 𝕄) :
    iprop((xS.view.loc (c : Thread nD τ) ↦{fullShare} fx) ∗ (kS.view.loc (c : Thread nD τ) ↦{fullShare} fk) ∗ (vS.view.loc (c : Thread nD τ) ↦{fullShare} fv)
        ∗ (xM.view.loc (c : Thread nD τ) ↦{fullShare} gx) ∗ (kM.view.loc (c : Thread nD τ) ↦{fullShare} gk) ∗ (vM.view.loc (c : Thread nD τ) ↦{fullShare} gv))
      ⊢ iprop((iprop((xS.view.loc (c : Thread nD τ) ↦{fullShare} fx) ∗ (kS.view.loc (c : Thread nD τ) ↦{fullShare} fk) ∗ (vS.view.loc (c : Thread nD τ) ↦{fullShare} fv)
        ∗ (xM.view.loc (c : Thread nD τ) ↦{fullShare} (permuted fx)) ∗ (kM.view.loc (c : Thread nD τ) ↦{fullShare} (permuted fk)) ∗ (vM.view.loc (c : Thread nD τ) ↦{fullShare} (permuted fv)))
          -∗ wp frame (wpE (defs₀ (F := F)) 𝒱₀ (c : Thread nD τ) none) Set.univ κ Q)
        -∗ wp frame (wpE (defs₀ (F := F)) 𝒱₀ (c : Thread nD τ) none) Set.univ
          (s2 xS kS vS xM (Memref.isWhole_whole _) kM (Memref.isWhole_whole _) vM (Memref.isWhole_whole _) κ) Q) := by
  iintro ⟨Hx, Hk, Hv, Hgx, Hgk, Hgv⟩ Hκ
  unfold s2
  sl_exec
  rw [← writes_eq cc0_scratch1 gx (permuted fx) (copyL fx) (copyL_agree fx) (copyL_cover fx),
    ← writes_eq cc0_scratch2 gk (permuted fk) (copyL fk) (copyL_agree fk) (copyL_cover fk),
    ← writes_eq cc0_scratch3 gv (permuted fv) (copyL fv) (copyL_agree fv) (copyL_cover fv)]
  iapply Hκ
  isplitl [Hx]; · iexact Hx
  isplitl [Hk]; · iexact Hk
  isplitl [Hv]; · iexact Hv
  isplitl [Hgx]; · iexact Hgx
  isplitl [Hgk]; · iexact Hgk
  iexact Hgv

end Cert.KernelIdeal.Run

end
-- ==== Proof.RunHead0.lean ====
/- The stretch that computes the eight heads of the first row group. -/
module

public import proofs.«01_k».proof.Proof.RunCopy

@[expose] public section

set_option maxRecDepth 65536
set_option maxHeartbeats 4000000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

theorem inb_ctx (h : Fin 8) : ∀ a, (![0, 128 * h.val] : Fin 2 → ℕ) a + S384x128.size a ≤ S384x1024.size a := by revert h; decide
theorem inb_kv (h : Fin 8) : ∀ a, (![0, 128 * h.val] : Fin 2 → ℕ) a + S384x128.size a ≤ S1024x1024.size a := by revert h; decide
theorem slc_q (h : Fin 8) : S1024x1024.Slices ![0, 128 * h.val] S384x128 := by revert h; decide

/-- The eight stores of the first group's heads, the last first. -/
def ctxL0 (q k v : Vec F S1024x1024 .bf16) : List (View.Piece (Elt F) S384x1024 .bf16) :=
  ([7, 6, 5, 4, 3, 2, 1, 0] : List (Fin 8)).map fun h =>
    ⟨Rect.unit (s := S384x1024) ![0, 128 * h.val] S384x128.size (inb_ctx h),
      shapeCast S384x128 (hd0 (extractStridedSlice S384x128 ![0, 128 * h.val] q (slc_q h))
        (fun z => k ((Rect.unit (s := S1024x1024) ![0, 128 * h.val] S384x128.size (inb_kv h)).emb z))
        (fun z => v ((Rect.unit (s := S1024x1024) ![0, 128 * h.val] S384x128.size (inb_kv h)).emb z))) shapeCasts_S384x128_S384x128⟩

/-- A window of 128 columns read as a head's rows. -/
theorem blk_emb {α : Type} (n r : ℕ) (hr : r + n ≤ 1024) (h : Fin 8) (X : S1024x1024.Idx → α)
    (inb : ∀ a, (![r, 128 * h.val] : Fin 2 → ℕ) a + (⟨2, ![n, 128]⟩ : Shape).size a ≤ S1024x1024.size a) :
    (fun z => X ((Rect.unit (s := S1024x1024) ![r, 128 * h.val] (⟨2, ![n, 128]⟩ : Shape).size inb).emb z)) = blk n r hr h X := by
  funext z
  unfold blk
  congr 1
  refine (eq_ix2 _).trans ?_
  congr 1 <;> apply Fin.ext
  · exact emb_val _ _ _ _ _
  · exact (emb_val _ _ _ _ _).trans (congrArg (· + (z 1).val) (Nat.mul_comm 128 h.val))

theorem blk_slice {α : EltTy} (n r : ℕ) (hr : r + n ≤ 1024) (h : Fin 8) (X : Vec F S1024x1024 α)
    (hs : S1024x1024.Slices ![r, 128 * h.val] (⟨2, ![n, 128]⟩ : Shape)) :
    extractStridedSlice (⟨2, ![n, 128]⟩ : Shape) ![r, 128 * h.val] X hs = blk n r hr h X := by
  funext z
  unfold blk
  refine congrArg X ((eq_ix2 _).trans ?_)
  congr 1
  apply Fin.ext
  show 128 * h.val + (z 1).val = h.val * 128 + (z 1).val
  omega

theorem head_col (h : Fin 8) (j : Fin 1024) (i : Fin 128) (e : j.val = 128 * h.val + i.val) : headOf j = h ∧ colOf j = i :=
  ⟨Fin.ext (by simp only; omega), Fin.ext (by simp only; omega)⟩

theorem ctxL0_agree (q k v : Vec F S1024x1024 .bf16) : ∀ p ∈ ctxL0 q k v, ∀ x : p.1.shape.Idx, p.2 x = ctx0 q k v (p.1.emb x) := by
  intro p hp
  obtain ⟨h, -, rfl⟩ := List.mem_map.mp hp
  intro (x : S384x128.Idx)
  show shapeCast S384x128 (hd0 _ _ _) _ x = ctx0 q k v ((Rect.unit (s := S384x1024) ![0, 128 * h.val] S384x128.size (inb_ctx h)).emb x)
  have ek (X : Vec F S1024x1024 .bf16) : (fun z => X ((Rect.unit (s := S1024x1024) ![0, 128 * h.val] S384x128.size (inb_kv h)).emb z))
      = blk 384 0 (by omega) h X := blk_emb 384 0 (by omega) h X (inb_kv h)
  rw [shapeCast_self, blk_slice 384 0 (by omega) h q]
  refine (congrFun (congrArg₂ (hd0 _) (ek k) (ek v)) x).trans ?_
  have e0 := emb_val (s := S384x1024) ![0, 128 * h.val] S384x128.size (inb_ctx h) x 0
  obtain ⟨e1, e2⟩ := head_col h _ (x 1) (emb_val (s := S384x1024) ![0, 128 * h.val] S384x128.size (inb_ctx h) x 1)
  unfold ctx0
  rw [e1, e2]
  refine congrArg (hd0 _ _ _) ((eq_ix2 _).trans ?_)
  congr 1
  exact Fin.ext (by rw [e0]; exact (Nat.zero_add _).symm)

theorem ctxL0_cover (q k v : Vec F S1024x1024 .bf16) : ∀ y, ∃ p ∈ ctxL0 q k v, y ∈ p.1.set :=
  View.cover_of_tiled (ctxL0 q k v) S384x128.size rfl

theorem heads0 (c : Dev nD) (x k v : Vec F S1024x1024 .bf16) (g : Vec F S384x1024 .bf16) (wq wo : Vec F S1024x1024 .f32)
    {R : Type} (κ : Vec F S1024x1024 .f32 → Vec F S384x1024 .bf16 → Prog (TpuEff nD τ sig (Elt F) Λ₀ .tc) R) (Q : R → sProp 𝕄) :
    iprop((kM.view.loc (c : Thread nD τ) ↦{fullShare} k) ∗ (vM.view.loc (c : Thread nD τ) ↦{fullShare} v)
        ∗ (cM.view.loc (c : Thread nD τ) ↦{fullShare} g) ∗ (woM.view.loc (c : Thread nD τ) ↦{fullShare} wo))
      ⊢ iprop((iprop((kM.view.loc (c : Thread nD τ) ↦{fullShare} k) ∗ (vM.view.loc (c : Thread nD τ) ↦{fullShare} v)
        ∗ (cM.view.loc (c : Thread nD τ) ↦{fullShare} ctx0 (qV x wq) k v) ∗ (woM.view.loc (c : Thread nD τ) ↦{fullShare} wo))
          -∗ wp frame (wpE (defs₀ (F := F)) 𝒱₀ (c : Thread nD τ) none) Set.univ (κ wo (ctx0 (qV x wq) k v)) Q)
        -∗ wp frame (wpE (defs₀ (F := F)) 𝒱₀ (c : Thread nD τ) none) Set.univ
          (s4 cM (Memref.isWhole_whole _) kM vM woM wq x κ) Q) := by
  iintro ⟨Hk, Hv, Hg, Hw⟩ Hκ
  unfold s4
  sl_exec
  have hL : heads0.sl.Hg_8 x k v wq = ctxL0 (qV x wq) k v := rfl
  have hC (f : Vec F S384x1024 .bf16) : cM.view.writes (Elt F) f (heads0.sl.Hg_8 x k v wq) = ctx0 (qV x wq) k v := by
    rw [hL]; exact writes_eq cc0_scratch0 f _ _ (ctxL0_agree _ k v) (ctxL0_cover _ k v)
  have hz : (![0, 0] : Fin 2 → Nat) = fun _ => 0 := funext fun a => by fin_cases a <;> rfl
  have hv : heads0.sl.v460 x k v wq = ctx0 (qV x wq) k v := by
    show cM.view.readAt (Elt F) _ (cM.view.writes (Elt F) _ (heads0.sl.Hg_8 x k v wq)) = _
    rw [hC]
    exact Memref.readAt_unit_zero (Elt F) cc0_scratch0 hz _ _
  have hwo (hi) : woM.view.readAt (Elt F) (Rect.unit (s := S1024x1024) ![0, 0] S1024x1024.size hi).toLoadRect wo = wo :=
    Memref.readAt_unit_zero (Elt F) cc0_scratch7 hz _ wo
  rw [hC, hv, hwo]
  iapply Hκ
  isplitl [Hk]; · iexact Hk
  isplitl [Hv]; · iexact Hv
  isplitl [Hg]; · iexact Hg
  iexact Hw

end Cert.KernelIdeal.Run

end
-- ==== Proof.RunHead1.lean ====
/- The stretches that compute a later group's heads into the scratch buffer. -/
module

public import proofs.«01_k».proof.Proof.RunHead0

@[expose] public section

set_option maxRecDepth 65536
set_option maxHeartbeats 4000000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

theorem inb_c1 (h : Fin 8) : ∀ a, (![0, 128 * h.val] : Fin 2 → ℕ) a + S320x128.size a ≤ S384x1024.size a := by revert h; decide
theorem inb_k0 (h : Fin 8) : ∀ a, (![0, 128 * h.val] : Fin 2 → ℕ) a + S64x128.size a ≤ S1024x1024.size a := by revert h; decide
theorem inb_1 (d : ℕ) (hd : d + 320 ≤ 1024) (h : Fin 8) : ∀ a, (![d, 128 * h.val] : Fin 2 → ℕ) a + S320x128.size a ≤ S1024x1024.size a := by
  have := h.isLt
  intro a
  fin_cases a
  · exact hd
  · show 128 * h.val + 128 ≤ 1024
    omega
theorem slc_1 (d : ℕ) (hd : d + 320 ≤ 1024) (h : Fin 8) : S1024x1024.Slices ![d, 128 * h.val] S320x128 :=
  ⟨rfl, inb_1 d hd h⟩

theorem hd1_congr {q q' k k' v v' : Vec F S320x128 .bf16} {k0 k0' v0 v0' : Vec F S64x128 .bf16} {kd kd' vd vd' : Vec F S320x128 .bf16}
    (a : q = q') (b : k = k') (c : v = v') (d : k0 = k0') (e : v0 = v0') (f : kd = kd') (g : vd = vd') :
    hd1 q k v k0 v0 kd vd = hd1 q' k' v' k0' v0' kd' vd' := by subst a b c d e f g; rfl

section
variable (d g : ℕ) (hd : d + 320 ≤ 1024) (hg : g + 320 ≤ 1024) (q k v : Vec F S1024x1024 .bf16)

/-- The eight stores of a later group's heads, the last first. -/
def ctxL1 : List (View.Piece (Elt F) S384x1024 .bf16) :=
  ([7, 6, 5, 4, 3, 2, 1, 0] : List (Fin 8)).map fun h =>
    ⟨Rect.unit (s := S384x1024) ![0, 128 * h.val] S320x128.size (inb_c1 h),
      shapeCast S320x128 (hd1 (extractStridedSlice S320x128 ![d, 128 * h.val] q (slc_1 d hd h))
        (fun z => k ((Rect.unit (s := S1024x1024) ![g, 128 * h.val] S320x128.size (inb_1 g hg h)).emb z))
        (fun z => v ((Rect.unit (s := S1024x1024) ![g, 128 * h.val] S320x128.size (inb_1 g hg h)).emb z))
        (fun z => k ((Rect.unit (s := S1024x1024) ![0, 128 * h.val] S64x128.size (inb_k0 h)).emb z))
        (fun z => v ((Rect.unit (s := S1024x1024) ![0, 128 * h.val] S64x128.size (inb_k0 h)).emb z))
        (fun z => k ((Rect.unit (s := S1024x1024) ![d, 128 * h.val] S320x128.size (inb_1 d hd h)).emb z))
        (fun z => v ((Rect.unit (s := S1024x1024) ![d, 128 * h.val] S320x128.size (inb_1 d hd h)).emb z))) shapeCasts_S320x128_S320x128⟩

/-- What those stores leave in the rows they fill (the rows below are never read). -/
def ctxG1 : Vec F S384x1024 .bf16 := fun y => ctx1 d g hd hg q k v (ix2 ⟨(y 0).val % 320, Nat.mod_lt _ (by decide)⟩ (y 1))

theorem ctx1_at (h : Fin 8) (a : Fin 320) (j : Fin 1024) (i : Fin 128) (e : j.val = 128 * h.val + i.val) :
    ctx1 d g hd hg q k v (ix2 a j) = hd1 (blk 320 d hd h q) (blk 320 g hg h k) (blk 320 g hg h v) (blk 64 0 (by omega) h k)
      (blk 64 0 (by omega) h v) (blk 320 d hd h k) (blk 320 d hd h v) (ix2 a i) := by
  obtain ⟨e1, e2⟩ := head_col h j i e
  show hd1 (blk 320 d hd (headOf j) q) (blk 320 g hg (headOf j) k) (blk 320 g hg (headOf j) v) (blk 64 0 _ (headOf j) k)
      (blk 64 0 _ (headOf j) v) (blk 320 d hd (headOf j) k) (blk 320 d hd (headOf j) v) (ix2 a (colOf j)) = _
  rw [e1, e2]

theorem ctxL1_agree : ∀ p ∈ ctxL1 d g hd hg q k v, ∀ x : p.1.shape.Idx, p.2 x = ctxG1 d g hd hg q k v (p.1.emb x) := by
  intro p hp
  obtain ⟨h, -, rfl⟩ := List.mem_map.mp hp
  intro (x : S320x128.Idx)
  show shapeCast S320x128 (hd1 _ _ _ _ _ _ _) _ x = ctxG1 d g hd hg q k v ((Rect.unit (s := S384x1024) ![0, 128 * h.val] S320x128.size (inb_c1 h)).emb x)
  have e1 (d : ℕ) (hd : d + 320 ≤ 1024) (X : Vec F S1024x1024 .bf16) :
      (fun z => X ((Rect.unit (s := S1024x1024) ![d, 128 * h.val] S320x128.size (inb_1 d hd h)).emb z)) = blk 320 d hd h X :=
    blk_emb 320 d hd h X (inb_1 d hd h)
  have e0 (X : Vec F S1024x1024 .bf16) :
      (fun z => X ((Rect.unit (s := S1024x1024) ![0, 128 * h.val] S64x128.size (inb_k0 h)).emb z)) = blk 64 0 (by omega) h X :=
    blk_emb 64 0 (by omega) h X (inb_k0 h)
  have key : hd1 (extractStridedSlice S320x128 ![d, 128 * h.val] q (slc_1 d hd h)) _ _ _ _ _ _
      = hd1 (blk 320 d hd h q) (blk 320 g hg h k) (blk 320 g hg h v) (blk 64 0 (by omega) h k) (blk 64 0 (by omega) h v)
        (blk 320 d hd h k) (blk 320 d hd h v) :=
    hd1_congr (blk_slice 320 d hd h q _) (e1 g hg k) (e1 g hg v) (e0 k) (e0 v) (e1 d hd k) (e1 d hd v)
  rw [shapeCast_self]
  refine (congrFun key x).trans ?_
  have i0 := emb_val (s := S384x1024) ![0, 128 * h.val] S320x128.size (inb_c1 h) x 0
  have hx : (x 0).val < 320 := (x 0).isLt
  unfold ctxG1
  rw [ctx1_at d g hd hg q k v h _ _ (x 1) (emb_val (s := S384x1024) ![0, 128 * h.val] S320x128.size (inb_c1 h) x 1)]
  refine congrArg (hd1 _ _ _ _ _ _ _) ((eq_ix2 _).trans ?_)
  congr 1
  refine Fin.ext ?_
  show (x 0).val = _ % 320
  rw [i0]
  show (x 0).val = (0 + (x 0).val) % 320
  omega

/-- The heads read back from the rows just filled. -/
theorem ctxL1_read (f : Vec F S384x1024 .bf16) (hi) :
    cM.view.readAt (Elt F) (Rect.unit (s := S384x1024) ![0, 0] S320x1024.size hi).toLoadRect
      (cM.view.writes (Elt F) f (ctxL1 d g hd hg q k v)) = ctx1 d g hd hg q k v := by
  funext (z : S320x1024.Idx)
  have hz : (z 0).val < 320 := (z 0).isLt
  refine (View.read_writes_apply_of_pieces cM.view f (ctxG1 d g hd hg q k v) (ctxL1 d g hd hg q k v)
    (ctxL1_agree d g hd hg q k v) ((Rect.unit (s := S384x1024) ![0, 0] S320x1024.size hi).emb z) ?_).trans ?_
  · have hp : ∀ h : Fin 8, (⟨Rect.unit (s := S384x1024) ![0, 128 * h.val] S320x128.size (inb_c1 h), _⟩ : View.Piece (Elt F) S384x1024 .bf16) ∈ ctxL1 d g hd hg q k v :=
      fun h => List.mem_map.mpr ⟨h, by revert h; decide, rfl⟩
    refine ⟨_, hp (headOf (z 1)), ?_⟩
    refine (Rect.mem_set_unit (inb := inb_c1 (headOf (z 1)))).mpr fun a => ?_
    rw [emb_val]
    have h1 : (z 1).val < 1024 := (z 1).isLt
    fin_cases a
    · exact ⟨Nat.zero_le _, by show 0 + (z 0).val < 0 + 320; omega⟩
    · exact ⟨by show 128 * ((z 1).val / 128) ≤ 0 + (z 1).val; omega, by show 0 + (z 1).val < 128 * ((z 1).val / 128) + 128; omega⟩
  · unfold ctxG1
    refine congrArg _ (Eq.trans ?_ (eq_ix2 z).symm)
    congr 1 <;> apply Fin.ext
    · refine (congrArg (· % 320) (emb_val (s := S384x1024) ![0, 0] S320x1024.size hi z 0)).trans ?_
      show (0 + (z 0).val) % 320 = (z 0).val
      omega
    · exact (emb_val (s := S384x1024) ![0, 0] S320x1024.size hi z 1).trans (Nat.zero_add (z 1).val)
end

theorem heads1 (c : Dev nD) (x k v : Vec F S1024x1024 .bf16) (g : Vec F S384x1024 .bf16) (wq : Vec F S1024x1024 .f32)
    {R : Type} (κ : Vec F S320x1024 .bf16 → Prog (TpuEff nD τ sig (Elt F) Λ₀ .tc) R) (Q : R → sProp 𝕄) :
    iprop((kM.view.loc (c : Thread nD τ) ↦{fullShare} k) ∗ (vM.view.loc (c : Thread nD τ) ↦{fullShare} v)
        ∗ (cM.view.loc (c : Thread nD τ) ↦{fullShare} g))
      ⊢ iprop((iprop((kM.view.loc (c : Thread nD τ) ↦{fullShare} k) ∗ (vM.view.loc (c : Thread nD τ) ↦{fullShare} v)
        ∗ (∃ f : Vec F S384x1024 .bf16, cM.view.loc (c : Thread nD τ) ↦{fullShare} f))
          -∗ wp frame (wpE (defs₀ (F := F)) 𝒱₀ (c : Thread nD τ) none) Set.univ
            (κ (ctx1 384 704 (by omega) (by omega) (qV x wq) k v)) Q)
        -∗ wp frame (wpE (defs₀ (F := F)) 𝒱₀ (c : Thread nD τ) none) Set.univ
          (s7 cM (Memref.isWhole_whole _) kM vM wq x κ) Q) := by
  iintro ⟨Hk, Hv, Hg⟩ Hκ
  unfold s7
  sl_exec
  have hv : heads1.sl.v804 x k v wq = ctx1 384 704 (by omega) (by omega) (qV x wq) k v :=
    ctxL1_read 384 704 (by omega) (by omega) (qV x wq) k v _ _
  rw [hv]
  iapply Hκ
  isplitl [Hk]; · iexact Hk
  isplitl [Hv]; · iexact Hv
  iexists _
  iexact Hg

theorem heads2 (c : Dev nD) (x k v : Vec F S1024x1024 .bf16) (g : Vec F S384x1024 .bf16) (wq : Vec F S1024x1024 .f32)
    {R : Type} (κ : Vec F S320x1024 .bf16 → Prog (TpuEff nD τ sig (Elt F) Λ₀ .tc) R) (Q : R → sProp 𝕄) :
    iprop((kM.view.loc (c : Thread nD τ) ↦{fullShare} k) ∗ (vM.view.loc (c : Thread nD τ) ↦{fullShare} v)
        ∗ (cM.view.loc (c : Thread nD τ) ↦{fullShare} g))
      ⊢ iprop((iprop((kM.view.loc (c : Thread nD τ) ↦{fullShare} k) ∗ (vM.view.loc (c : Thread nD τ) ↦{fullShare} v)
        ∗ (∃ f : Vec F S384x1024 .bf16, cM.view.loc (c : Thread nD τ) ↦{fullShare} f))
          -∗ wp frame (wpE (defs₀ (F := F)) 𝒱₀ (c : Thread nD τ) none) Set.univ
            (κ (ctx1 704 384 (by omega) (by omega) (qV x wq) k v)) Q)
        -∗ wp frame (wpE (defs₀ (F := F)) 𝒱₀ (c : Thread nD τ) none) Set.univ
          (s12 cM (Memref.isWhole_whole _) kM vM wq x κ) Q) := by
  iintro ⟨Hk, Hv, Hg⟩ Hκ
  unfold s12
  sl_exec
  have hv : heads2.sl.v1180 x k v wq = ctx1 704 384 (by omega) (by omega) (qV x wq) k v :=
    ctxL1_read 704 384 (by omega) (by omega) (qV x wq) k v _ _
  rw [hv]
  iapply Hκ
  isplitl [Hk]; · iexact Hk
  isplitl [Hv]; · iexact Hv
  iexists _
  iexact Hg

end Cert.KernelIdeal.Run

end
-- ==== Proof.Comm.lean ====
/- The steps of the exchange, one lemma each: a send of a piece, the two waits of a piece, the local copies of the weights,
   the barrier, and loads and stores of a piece. -/
module

public import proofs.«01_k».proof.Proof.RunHead1

@[expose] public section

set_option maxRecDepth 65536
set_option maxHeartbeats 4000000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Loads and stores of pieces -/

theorem sP_congr (i : Fin 6) (c : Dev nD) (f g : XBuf F) (h : ∀ x : (pRect i).shape.Idx, f ((pRect i).emb x) = g ((pRect i).emb x)) :
    (sP i c f : sProp 𝕄) = sP i c g := by
  unfold sP
  refine pointsTo_congr fun y hy => ?_
  obtain ⟨x, -, rfl⟩ := Finset.mem_map.mp hy
  exact h x

theorem rP_congr (i : Fin 6) (c : Dev nD) (f g : XBuf F) (h : ∀ x : (pRect i).shape.Idx, f ((pRect i).emb x) = g ((pRect i).emb x)) :
    (rP i c f : sProp 𝕄) = rP i c g := by
  unfold rP
  refine pointsTo_congr fun y hy => ?_
  obtain ⟨x, -, rfl⟩ := Finset.mem_map.mp hy
  exact h x

section Ops

variable {c : Dev nD}

theorem load_s (i : Fin 6) (f : XBuf F) {R : Type} {Q : R → sProp 𝕄} {r : Rect S2x1024x1024} (hr : r = pRect i)
    {hl : sM.view.LoadsAt r.toLoadRect} {k : (r.shape.Idx → Elt F .bf16) → Prog (TpuEff nD τ sig (Elt F) Λ₀ .tc) R} :
    sP i c f ⊢ iprop((sP i c f -∗ wp frame (wpE (defs₀ (F := F)) 𝒱₀ (c : Thread nD τ) none) Set.univ (k fun x => f (r.emb x)) Q)
      -∗ wp frame (wpE (defs₀ (F := F)) 𝒱₀ (c : Thread nD τ) none) Set.univ (.op (.load sM r.toLoadRect hl) k) Q) := by
  subst hr
  unfold sP
  exact wp_load_rect 𝒱₀ (c : Thread nD τ) none Set.univ (m := sM) (r := pRect i) (S := sSet i) (Finset.Subset.refl _)

theorem load_r (i : Fin 6) (f : XBuf F) {R : Type} {Q : R → sProp 𝕄} {r : Rect S2x1024x1024} (hr : r = pRect i)
    {hl : rM.view.LoadsAt r.toLoadRect} {k : (r.shape.Idx → Elt F .bf16) → Prog (TpuEff nD τ sig (Elt F) Λ₀ .tc) R} :
    rP i c f ⊢ iprop((rP i c f -∗ wp frame (wpE (defs₀ (F := F)) 𝒱₀ (c : Thread nD τ) none) Set.univ (k fun x => f (r.emb x)) Q)
      -∗ wp frame (wpE (defs₀ (F := F)) 𝒱₀ (c : Thread nD τ) none) Set.univ (.op (.load rM r.toLoadRect hl) k) Q) := by
  subst hr
  unfold rP
  exact wp_load_rect 𝒱₀ (c : Thread nD τ) none Set.univ (m := rM) (r := pRect i) (S := rSet i) (Finset.Subset.refl _)

/-- A store over a whole piece of the sent buffer, at what it leaves. -/
theorem store_s (i : Fin 6) (f G : XBuf F) {R : Type} {Q : R → sProp 𝕄} {r : Rect S2x1024x1024} (hr : r = pRect i) {w : r.shape.Idx → Elt F .bf16}
    (hw : ∀ x, w x = G (r.emb x)) {hx : (sM.access r).Stores Finset.univ} {hm}
    {k : PUnit → Prog (TpuEff nD τ sig (Elt F) Λ₀ .tc) R} :
    sP i c f ⊢ iprop((sP i c G -∗ wp frame (wpE (defs₀ (F := F)) 𝒱₀ (c : Thread nD τ) none) Set.univ (k ⟨⟩) Q)
      -∗ wp frame (wpE (defs₀ (F := F)) 𝒱₀ (c : Thread nD τ) none) Set.univ (.op (.store sM r w Finset.univ hx hm) k) Q) := by
  subst hr
  rw [← sP_congr i c ((sM.access (pRect i)).write (Elt F) f w Finset.univ) G fun x => ?_]
  · unfold sP
    exact wp_store 𝒱₀ (c : Thread nD τ) none Set.univ (m := sM) (r := pRect i) (Mk := Finset.univ) (S := sSet i)
      ((sM.access (pRect i)).setOn_subset_set _)
  · exact (View.write_emb_of_mem (v := sM.access (pRect i)) f w (Finset.mem_univ x)).trans (hw x)

end Ops

/-! ## The steps of the protocol -/

section Protocol

variable (SB : Dev nD → XBuf F) (WQ WO : Dev nD → WBuf F)
  (HQ : (c : Dev nD) → Buf (Elt F) ((c : Thread nD τ).loc main_arg1)) (HO : (c : Dev nD) → Buf (Elt F) ((c : Thread nD τ).loc main_arg4))

local notation "𝓡" => rd (F := F) SB WQ WO HQ HO

variable (K : GSem nD τ sig → ℕ) (c : Dev nD)

omit [FloatOps F] in
theorem univ_elim {I : Type} [Fintype I] [DecidableEq I] (Φ : I → sProp 𝕄) (x : I) : bigSep Finset.univ Φ ⊢ Φ x :=
  show Idealize.SL.BI.Entails _ _ from bigSep_elim (Finset.mem_univ x)

omit [FloatOps F] in
theorem bigSep_parity (Φ : Fin 6 → sProp 𝕄) : bigSep Finset.univ Φ
    = iprop(bigSep (Finset.univ.filter fun i : Fin 6 => i.val % 2 = false.toNat) Φ ∗ bigSep (Finset.univ.filter fun i : Fin 6 => i.val % 2 = true.toNat) Φ) := by
  rw [bigSep_filter_split Finset.univ (fun i : Fin 6 => i.val % 2 = false.toNat),
    show (Finset.univ.filter fun i : Fin 6 => ¬ i.val % 2 = false.toNat) = Finset.univ.filter fun i : Fin 6 => i.val % 2 = true.toNat from by decide]
  rfl

/-- Every cell's invariant. -/
def invs : sProp 𝕄 :=
  iprop((bigSep Finset.univ fun d : Dev nD => cellInv ER 𝓡 (K (barCell d)) (barCell d))
    ∗ bigSep Finset.univ fun p : Fin 14 × Dev nD => cellInv ER 𝓡 (K (oCell p.1 p.2)) (oCell p.1 p.2))

/-- What a device may use again and again: the invariants, the levels, and that its own cells are at round 0. -/
def Inv : sProp 𝕄 :=
  iprop(invs SB WQ WO HQ HO K ∗ levAts L lv ∗ bigSep Finset.univ fun k : Fin 14 => reached ER (oCell k c) 0)

instance invs_persistent : BI.Persistent (invs SB WQ WO HQ HO K) := by unfold invs; infer_instance
instance Inv_persistent : BI.Persistent (Inv SB WQ WO HQ HO K c) := by unfold Inv; infer_instance

theorem invs_bar (d : Dev nD) : invs SB WQ WO HQ HO K ⊢ (cellInv ER 𝓡 (K (barCell d)) (barCell d) : sProp 𝕄) := by
  unfold invs
  iintro ⟨H, -⟩
  iapply (univ_elim _ d) $$ H
theorem invs_o (k : Fin 14) (d : Dev nD) : invs SB WQ WO HQ HO K ⊢ (cellInv ER 𝓡 (K (oCell k d)) (oCell k d) : sProp 𝕄) := by
  unfold invs
  iintro ⟨-, H⟩
  iapply (univ_elim _ (k, d)) $$ H

theorem inv_o (k : Fin 14) (d : Dev nD) : Inv SB WQ WO HQ HO K c ⊢ (cellInv ER 𝓡 (K (oCell k d)) (oCell k d) : sProp 𝕄) := by
  unfold Inv
  iintro ⟨H, -, -⟩
  iapply (invs_o SB WQ WO HQ HO K k d) $$ H
theorem inv_bar (d : Dev nD) : Inv SB WQ WO HQ HO K c ⊢ (cellInv ER 𝓡 (K (barCell d)) (barCell d) : sProp 𝕄) := by
  unfold Inv
  iintro ⟨H, -, -⟩
  iapply (invs_bar SB WQ WO HQ HO K d) $$ H
theorem inv_lev : Inv SB WQ WO HQ HO K c ⊢ (levAts L lv : sProp 𝕄) := by
  unfold Inv
  iintro ⟨-, H, -⟩
  iexact H
theorem inv_reached (k : Fin 14) : Inv SB WQ WO HQ HO K c ⊢ (reached ER (oCell k c) 0 : sProp 𝕄) := by
  unfold Inv
  iintro ⟨-, -, H⟩
  iapply (univ_elim _ k) $$ H

/-- What is owed, whatever has been waited for. -/
def Ow (c : Dev nD) (O : CellTallies nD τ sig Unit) : sProp 𝕄 := iprop(∃ W, owes (c : Thread nD τ) O W)

/-- The rights around piece `i`: before its send, after it, after the wait for the send, after the wait for the receipt. -/
def T0 (i : Fin 6) (c : Dev nD) : sProp 𝕄 :=
  iprop(dutyTok ER (oCell (sndK i) c) 0 false ∗ dutyTok ER (oCell (rcvK i) (prt i c)) 0 false
    ∗ atPos ER (oCell (sndK i) c) 0 ∅ 0 ∗ atPos ER (oCell (rcvK i) c) 0 ∅ 0 ∗ cred (tallyAt (oCell (rcvK i) c) () (amt (rcvK i))))
def T1 (i : Fin 6) (c : Dev nD) : sProp 𝕄 :=
  iprop(cred (tallyAt (oCell (sndK i) c) () (amt (sndK i)))
    ∗ atPos ER (oCell (sndK i) c) 0 ∅ 0 ∗ atPos ER (oCell (rcvK i) c) 0 ∅ 0 ∗ cred (tallyAt (oCell (rcvK i) c) () (amt (rcvK i))))
def T2 (i : Fin 6) (c : Dev nD) : sProp 𝕄 :=
  iprop(atPos ER (oCell (sndK i) c) (0 + 1) ∅ 0 ∗ atPos ER (oCell (rcvK i) c) 0 ∅ 0 ∗ cred (tallyAt (oCell (rcvK i) c) () (amt (rcvK i))))
def T3 (i : Fin 6) (c : Dev nD) : sProp 𝕄 :=
  iprop(atPos ER (oCell (sndK i) c) (0 + 1) ∅ 0 ∗ atPos ER (oCell (rcvK i) c) (0 + 1) ∅ 0)

/-- The partner's landing zone of piece `i`. -/
def Land (i : Fin 6) (c : Dev nD) : sProp 𝕄 := iprop((∃ f, rP i (prt i c) f) ∗ reached ER (oCell (rcvK i) (prt i c)) 0)

variable {c}

theorem amt_snd (i : Fin 6) : amt (sndK i) = amt (rcvK i) := by
  fin_cases i <;> rfl

theorem send_piece (i : Fin 6) {n : Dev nD} (hn : n = prt i c) (s : Finset (Fin 6)) (hi : i ∉ s) {R : Type} {Q : R → sProp 𝕄}
    {r : Rect S2x1024x1024} (hr : r = pRect i) {sh : Shape} {h1 h1' : ∀ a, r.stride a = 1} {hq hq' : r.shape.Squeezes sh}
    {sS sR : SemLoc sig} (eS : sS = osem (sndK i)) (eR : sR = osem (rcvK i))
    (hN : ((rM.slice r h1).squeeze sh hq).view.dmaCredit = amt (rcvK i))
    {hsc : ((rM.slice r h1).squeeze sh hq : Memref sig (Dev.tc n : Thread nD τ).2.kind .vmem sh .bf16).view.ref.isScScratch = false}
    {hsrc : ((sM.slice r h1').squeeze sh hq').view.WordExact} {hdst : ((rM.slice r h1).squeeze sh hq).view.WordExact}
    {hsem : DmaTarget.Typed .vmem sR (.remote (Dev.tc n : Thread nD τ) ((rM.slice r h1).squeeze sh hq) sS hsc)}
    {k : PUnit → Prog (TpuEff nD τ sig (Elt F) Λ₀ .tc) R} :
    iprop(Inv SB WQ WO HQ HO K c ∗ T0 i c ∗ Land i c ∗ sP i c (SB c) ∗ Ow c (oweR (insert i s) c))
      ⊢ iprop(((T1 i c ∗ Ow c (oweR s c)) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma ((sM.slice r h1').squeeze sh hq') (.remote (Dev.tc n : Thread nD τ) ((rM.slice r h1).squeeze sh hq) sS hsc) sR hsrc hdst hsem) k) Q) := by
  subst hn hr eS eR
  unfold T0 T1 Land Ow sP
  iintro ⟨#HI, ⟨Ht1, Ht2, Ha1, Ha2, Hc⟩, ⟨⟨%fd, Hd⟩, #Hrd⟩, Hs, ⟨%W, HO⟩⟩ Hk
  unfold rP
  ihave #Hi1 := (inv_o SB WQ WO HQ HO K c (sndK i) c) $$ HI
  ihave #Hi2 := (inv_o SB WQ WO HQ HO K c (rcvK i) (prt i c)) $$ HI
  ihave #Hr1 := (inv_reached SB WQ WO HQ HO K c (sndK i)) $$ HI
  have e1 : ((sM.slice (pRect i) h1').squeeze sh hq').view.set = sSet i := View.set_reshape _ _
  have e2 : ((rM.slice (pRect i) h1).squeeze sh hq).view.set = rSet i := View.set_reshape _ _
  iapply (Rounds.wp_send_pointsTo 𝒱₀ ER 𝓡 (c : Thread nD τ) none (c' := (Dev.tc (prt i c) : Thread nD τ))
    (src := (sM.slice (pRect i) h1').squeeze sh hq') (dst := (rM.slice (pRect i) h1).squeeze sh hq)
    (sS := osem (sndK i)) (sem := osem (rcvK i)) (κ₁ := K (oCell (sndK i) c)) (κ₂ := K (oCell (rcvK i) (prt i c))) (q := fullShare) (fs := SB c) (fd := fd)
    (r₁ := 0) (r₂ := 0) (d₁ := false) (d₂ := false)
    (by rw [duties_o]; exact Finset.mem_singleton_self _) (by rw [duties_o]; exact Finset.mem_singleton_self _)
    () () (amt (rcvK i)) hN ((amount_o SB WQ WO HQ HO c (sndK i) false).trans (amt_snd i)) (amount_o SB WQ WO HQ HO (prt i c) (rcvK i) false)
    (oweR s c) (oweR_insert hi c) (W := W)
    (by rw [payload_o, oPay_snd, e1]; unfold sP; exact BI.Entails.refl _)
    (by
      rw [payload_o, oPay_rcv, e2, prt_prt]
      refine (Entails.of_eq (rP_congr i (prt i c) _ (SB c) fun x => ?_))
      have hy : (pRect i).emb x ∈ ((rM.slice (pRect i) h1).squeeze sh hq).view.set := by
        rw [e2]; exact Finset.mem_map.mpr ⟨x, Finset.mem_univ _, rfl⟩
      obtain ⟨z, -, hz⟩ := Finset.mem_map.mp hy
      rw [← hz]
      exact View.write_emb_of_mem (v := ((rM.slice (pRect i) h1).squeeze sh hq).view) fd _ (Finset.mem_univ z))) $$ [Ht1 Ht2 Hd Hs HO]
  · isplitr; · iexact Hi1
    isplitr; · iexact Hi2
    isplitl [Hs]; · rw [e1]; iexact Hs
    isplitl [Hd]; · rw [e2]; iexact Hd
    isplitl [HO]; · iexact HO
    isplitl [Ht1]; · iexact Ht1
    isplitr; · iexact Hr1
    isplitl [Ht2]; · iexact Ht2
    iexact Hrd
  iintro ⟨Hcs, HO⟩
  iapply Hk
  rw [amt_snd]
  isplitl [Hcs Ha1 Ha2 Hc]
  · isplitl [Hcs]; · iexact Hcs
    isplitl [Ha1]; · iexact Ha1
    isplitl [Ha2]; · iexact Ha2
    iexact Hc
  iexists W; iexact HO

/-- A wait for the round of a scoped cell, while the pieces in `s` are still to be sent. -/
theorem wait_o (k' : Fin 14) (s : Finset (Fin 6)) (b : ℕ) (hb : ∀ u, lv (oCell k' c) u = b) (hs : ∀ i ∈ s, b < 2 + i.val) {R : Type} {Q : R → sProp 𝕄}
    {w : TpuEff nD τ sig (Elt F) Λ₀ (Proc.tc) PUnit}
    (hw : ∀ X : PUnit → sProp 𝕄, wpE (defs₀ (F := F)) 𝒱₀ (c : Thread nD τ) none Set.univ w X = waitSpec (c : Thread nD τ) Set.univ (osem k') (amt k') X)
    {k : PUnit → Prog (TpuEff nD τ sig (Elt F) Λ₀ .tc) R} :
    iprop(Inv SB WQ WO HQ HO K c ∗ cred (tallyAt (oCell k' c) () (amt k')) ∗ atPos ER (oCell k' c) 0 ∅ 0 ∗ Ow c (oweR s c))
      ⊢ iprop(((atPos ER (oCell k' c) (0 + 1) ∅ 0 ∗ oPay SB WQ WO HQ HO k' c ∗ Ow c (oweR s c))
          -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  unfold Ow
  iintro ⟨#HI, Hc, Ha, ⟨%W, HO⟩⟩ Hk
  ihave #Hi := (inv_o SB WQ WO HQ HO K c k' c) $$ HI
  ihave #Hl := (inv_lev SB WQ WO HQ HO K c) $$ HI
  iapply (Rounds.wp_wait_rest_token 𝒱₀ ER 𝓡 (c : Thread nD τ) none (κ := K (oCell k' c)) hw (Set.mem_univ _) () (O := oweR s c) (W := W)
    (R := 0) (m := 0) (T := ∅) (by rw [Nat.zero_add, expect_o])) $$ [Hc Ha HO]
  · isplitr; · iexact Hi
    isplitl [Hc]; · iexact Hc
    isplitl [HO]; · iexact HO
    isplitr; · iapply (mayWait c (osem k') s b (hb ()) hs); iexact Hl
    iexact Ha
  iintro ⟨HO, Ha, -, Hp⟩
  ihave Hp := (Entails.of_eq (rest_o SB WQ WO HQ HO c k')) $$ Hp
  iapply Hk
  isplitl [Ha]; · iexact Ha
  isplitl [Hp]; · iexact Hp
  iexists _; iexact HO

theorem wait_snd (i : Fin 6) (s : Finset (Fin 6)) {R : Type} {Q : R → sProp 𝕄} {w : TpuEff nD τ sig (Elt F) Λ₀ (Proc.tc) PUnit}
    (hw : ∀ X : PUnit → sProp 𝕄, wpE (defs₀ (F := F)) 𝒱₀ (c : Thread nD τ) none Set.univ w X = waitSpec (c : Thread nD τ) Set.univ (osem (sndK i)) (amt (sndK i)) X)
    {k : PUnit → Prog (TpuEff nD τ sig (Elt F) Λ₀ .tc) R} :
    iprop(Inv SB WQ WO HQ HO K c ∗ T1 i c ∗ Ow c (oweR s c))
      ⊢ iprop(((T2 i c ∗ sP i c (SB c) ∗ Ow c (oweR s c)) -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  unfold T1 T2
  iintro ⟨#HI, ⟨Hcs, Ha1, Ha2, Hc⟩, HO⟩ Hk
  iapply (wait_o SB WQ WO HQ HO K (sndK i) s 0 (fun u => lv_low _ (by simp only; omega) c u) (fun _ _ => by omega) hw) $$ [Hcs Ha1 HO]
  · isplitr; · iexact HI
    isplitl [Hcs]; · iexact Hcs
    isplitl [Ha1]; · iexact Ha1
    iexact HO
  rw [oPay_snd]
  iintro ⟨Ha1, Hs, HO⟩
  iapply Hk
  isplitl [Ha1 Ha2 Hc]
  · isplitl [Ha1]; · iexact Ha1
    isplitl [Ha2]; · iexact Ha2
    iexact Hc
  isplitl [Hs]; · iexact Hs
  iexact HO

theorem wait_rcv (i : Fin 6) (s : Finset (Fin 6)) (hs : ∀ j ∈ s, i < j) {R : Type} {Q : R → sProp 𝕄} {w : TpuEff nD τ sig (Elt F) Λ₀ (Proc.tc) PUnit}
    (hw : ∀ X : PUnit → sProp 𝕄, wpE (defs₀ (F := F)) 𝒱₀ (c : Thread nD τ) none Set.univ w X = waitSpec (c : Thread nD τ) Set.univ (osem (rcvK i)) (amt (rcvK i)) X)
    {k : PUnit → Prog (TpuEff nD τ sig (Elt F) Λ₀ .tc) R} :
    iprop(Inv SB WQ WO HQ HO K c ∗ T2 i c ∗ Ow c (oweR s c))
      ⊢ iprop(((T3 i c ∗ rP i c (SB (prt i c)) ∗ Ow c (oweR s c)) -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  unfold T2 T3
  iintro ⟨#HI, ⟨Ha1, Ha2, Hc⟩, HO⟩ Hk
  iapply (wait_o SB WQ WO HQ HO K (rcvK i) s (2 + i.val) (fun u => lv_rcv i c u)
    (fun j hj => by have : i.val < j.val := hs j hj; omega) hw) $$ [Ha2 Hc HO]
  · isplitr; · iexact HI
    isplitl [Hc]; · iexact Hc
    isplitl [Ha2]; · iexact Ha2
    iexact HO
  rw [oPay_rcv]
  iintro ⟨Ha2, Hr, HO⟩
  iapply Hk
  isplitl [Ha1 Ha2]
  · isplitl [Ha1]; · iexact Ha1
    iexact Ha2
  isplitl [Hr]; · iexact Hr
  iexact HO

/-! ### The local copies -/

def C0 (j : Fin 2) (c : Dev nD) : sProp 𝕄 := iprop(dutyTok ER (oCell (cpK j) c) 0 false ∗ atPos ER (oCell (cpK j) c) 0 ∅ 0)
def C1 (j : Fin 2) (c : Dev nD) : sProp 𝕄 := iprop(cred (tallyAt (oCell (cpK j) c) () (amt (cpK j))) ∗ atPos ER (oCell (cpK j) c) 0 ∅ 0)

theorem start_copy (j : Fin 2) {R : Type} {Q : R → sProp 𝕄} {src : Memref sig .tc .hbm S1024x1024 .f32} {dst : Memref sig .tc .vmem S1024x1024 .f32}
    {sm : SemLoc sig} (esm : sm = osem (cpK j)) (hN : dst.view.amount (osem (cpK j)) = amt (cpK j))
    (fs : Buf (Elt F) (src.view.loc (c : Thread nD τ))) (fd : Buf (Elt F) (dst.view.loc (c : Thread nD τ)))
    {hsrc : src.view.WordExact} {hdst : dst.view.WordExact} {hsem : DmaTarget.Typed (nD := nD) .hbm sm (.here (p := (.tc : Proc τ)) dst)}
    (hpay : iprop((dst.view.loc (c : Thread nD τ) ↦[dst.view.set]{fullShare} (dst.view.write (Elt F) fd (src.view.read (Elt F) fs) Finset.univ))
      ∗ (src.view.loc (c : Thread nD τ) ↦[src.view.set]{fullShare} fs)) = (oPay SB WQ WO HQ HO (cpK j) c : sProp 𝕄))
    {k : PUnit → Prog (TpuEff nD τ sig (Elt F) Λ₀ .tc) R} :
    iprop(Inv SB WQ WO HQ HO K c ∗ C0 j c ∗ (src.view.loc (c : Thread nD τ) ↦[src.view.set]{fullShare} fs) ∗ (dst.view.loc (c : Thread nD τ) ↦[dst.view.set]{fullShare} fd))
      ⊢ iprop((C1 j c -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.here dst) sm hsrc hdst hsem) k) Q) := by
  subst esm
  unfold C0 C1
  iintro ⟨#HI, ⟨Ht, Ha⟩, Hs, Hd⟩ Hk
  ihave #Hi := (inv_o SB WQ WO HQ HO K c (cpK j) c) $$ HI
  ihave #Hr := (inv_reached SB WQ WO HQ HO K c (cpK j)) $$ HI
  iapply (Rounds.wp_copy_pointsTo 𝒱₀ ER 𝓡 (c : Thread nD τ) none (src := src) (dst := dst) (sem := osem (cpK j)) (q := fullShare)
    (fs := fs) (fd := fd) (r := 0) (d := false) (κ := K (oCell (cpK j) c))
    (by rw [duties_o]; exact Finset.mem_singleton_self _) () (amt (cpK j)) hN (amount_o SB WQ WO HQ HO c (cpK j) false)
    (by rw [payload_o]; exact Entails.of_eq hpay)) $$ [Ht Hs Hd]
  · isplitr; · iexact Hi
    isplitl [Hs]; · iexact Hs
    isplitl [Hd]; · iexact Hd
    isplitl [Ht]; · iexact Ht
    iexact Hr
  iintro Hc
  iapply Hk
  isplitl [Hc]; · iexact Hc
  iexact Ha

theorem wait_copy (j : Fin 2) (s : Finset (Fin 6)) {R : Type} {Q : R → sProp 𝕄} {w : TpuEff nD τ sig (Elt F) Λ₀ (Proc.tc) PUnit}
    (hw : ∀ X : PUnit → sProp 𝕄, wpE (defs₀ (F := F)) 𝒱₀ (c : Thread nD τ) none Set.univ w X = waitSpec (c : Thread nD τ) Set.univ (osem (cpK j)) (amt (cpK j)) X)
    {k : PUnit → Prog (TpuEff nD τ sig (Elt F) Λ₀ .tc) R} :
    iprop(Inv SB WQ WO HQ HO K c ∗ C1 j c ∗ Ow c (oweR s c))
      ⊢ iprop(((atPos ER (oCell (cpK j) c) (0 + 1) ∅ 0 ∗ oPay SB WQ WO HQ HO (cpK j) c ∗ Ow c (oweR s c))
          -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  unfold C1
  iintro ⟨#HI, ⟨Hc, Ha⟩, HO⟩ Hk
  iapply (wait_o SB WQ WO HQ HO K (cpK j) s 0 (fun u => lv_low _ (by simp only; omega) c u) (fun _ _ => by omega) hw) $$ [Hc Ha HO]
  · isplitr; · iexact HI
    isplitl [Hc]; · iexact Hc
    isplitl [Ha]; · iexact Ha
    iexact HO
  iexact Hk

/-! ### The barrier -/

/-- The rights of a device around the barrier. -/
def B0 (c : Dev nD) : sProp 𝕄 :=
  iprop(dutyTok ER (barCell (pa c)) 0 false ∗ dutyTok ER (barCell (pb c)) 0 true ∗ reached ER (barCell (pa c)) 0 ∗ reached ER (barCell (pb c)) 0
    ∗ atPos ER (barCell c) 0 ∅ 0 ∗ cred (tallyAt (barCell c) () 2))

theorem barPay_intro (e : Bool) : iprop(Inv SB WQ WO HQ HO K c ∗ bigSep (Finset.univ.filter fun i : Fin 6 => i.val % 2 = e.toNat) fun i => iprop(∃ f, rP i c f))
    ⊢ (barPay c e : sProp 𝕄) := by
  unfold barPay
  refine bigSep_with_persistent fun i _ => ?_
  iintro ⟨#HI, H⟩
  isplitl [H]; · iexact H
  iapply (inv_reached SB WQ WO HQ HO K c (rcvK i)) $$ HI

theorem land_all : iprop(barPay (F := F) (pa c) false ∗ barPay (pb c) true) ⊢ (bigSep Finset.univ fun i : Fin 6 => Land i c : sProp 𝕄) := by
  rw [bigSep_parity]
  unfold barPay
  refine BIClass.sep_mono (Entails.of_eq (bigSep_congr fun i hi => ?_)) (Entails.of_eq (bigSep_congr fun i hi => ?_))
  · have h : prt i c = pa c := if_pos (Finset.mem_filter.mp hi).2
    unfold Land; rw [h]
  · have h : prt i c = pb c := if_neg (by rw [(Finset.mem_filter.mp hi).2]; decide)
    unfold Land; rw [h]

theorem barrier {na nb : Dev nD} (ha : na = pa c) (hb : nb = pb c) {R : Type} {Q : R → sProp 𝕄} {k : PUnit → Prog (TpuEff nD τ sig (Elt F) Λ₀ .tc) R} :
    iprop(Inv SB WQ WO HQ HO K c ∗ B0 c ∗ (bigSep Finset.univ fun i : Fin 6 => iprop(∃ f, rP i c f)) ∗ Ow c (O₀ c))
      ⊢ iprop(((atPos ER (barCell c) (0 + 1) ∅ 0 ∗ (bigSep Finset.univ fun i : Fin 6 => Land i c) ∗ Ow c (oweR Finset.univ c))
          -∗ wp frame (wpE (defs₀ (F := F)) 𝒱₀ (c : Thread nD τ) none) Set.univ (k ⟨⟩) Q)
        -∗ wp frame (wpE (defs₀ (F := F)) 𝒱₀ (c : Thread nD τ) none) Set.univ
          (.op (.semSignal (na : Thread nD τ) barS 1) fun _ => .op (.semSignal (nb : Thread nD τ) barS 1) fun _ => .op (.semWait barS 2) k) Q) := by
  subst ha hb
  unfold B0 Ow
  iintro ⟨#HI, ⟨HtA, HtB, #HrA, #HrB, Ha, Hc⟩, Hr, ⟨%W, HO⟩⟩ Hk
  ihave #Hia := (inv_bar SB WQ WO HQ HO K c (pa c)) $$ HI
  ihave #Hib := (inv_bar SB WQ WO HQ HO K c (pb c)) $$ HI
  ihave #Hic := (inv_bar SB WQ WO HQ HO K c c) $$ HI
  ihave #Hl := (inv_lev SB WQ WO HQ HO K c) $$ HI
  ihave ⟨H0, H1⟩ := (Entails.of_eq (bigSep_parity (fun i : Fin 6 => iprop(∃ f, rP (F := F) i c f)))) $$ Hr
  iapply (Rounds.wp_signal 𝒱₀ ER 𝓡 (c : Thread nD τ) none (dst := (pa c : Thread nD τ)) (κ := K (barCell (pa c))) (d := false)
    (by rw [duties_bar]; exact Finset.mem_univ _) (amount_bar SB WQ WO HQ HO (pa c) false) ()
    (oweR Finset.univ c + tallyAt (barCell (pb c)) () 1) rfl) $$ [HO HtA H0]
  · isplitr; · iexact Hia
    isplitl [HO]; · iexact HO
    isplitl [HtA]; · iexact HtA
    isplitl [H0]
    · rw [payload_bar, if_neg (by decide), pa_pa]
      iapply (barPay_intro SB WQ WO HQ HO K false)
      isplitr; · iexact HI
      iexact H0
    iexact HrA
  iintro HO
  iapply (Rounds.wp_signal 𝒱₀ ER 𝓡 (c : Thread nD τ) none (dst := (pb c : Thread nD τ)) (κ := K (barCell (pb c))) (d := true)
    (by rw [duties_bar]; exact Finset.mem_univ _) (amount_bar SB WQ WO HQ HO (pb c) true) ()
    (oweR Finset.univ c) rfl) $$ [HO HtB H1]
  · isplitr; · iexact Hib
    isplitl [HO]; · iexact HO
    isplitl [HtB]; · iexact HtB
    isplitl [H1]
    · rw [payload_bar, if_pos rfl, pb_pb]
      iapply (barPay_intro SB WQ WO HQ HO K true)
      isplitr; · iexact HI
      iexact H1
    iexact HrB
  iintro HO
  iapply (Rounds.wp_wait_rest_token 𝒱₀ ER 𝓡 (c : Thread nD τ) none (κ := K (barCell c))
    (wpE_semWait_eq 𝒱₀ (c : Thread nD τ) none Set.univ) (Set.mem_univ _) () (O := oweR Finset.univ c) (W := W)
    (R := 0) (m := 0) (T := ∅) (by rw [Nat.zero_add, expect_bar])) $$ [Hc Ha HO]
  · isplitr; · iexact Hic
    isplitl [Hc]; · iexact Hc
    isplitl [HO]; · iexact HO
    isplitr; · iapply (mayWait c (.reg barS) Finset.univ 1 rfl (fun _ _ => by omega)); iexact Hl
    iexact Ha
  iintro ⟨HO, Ha, -, Hp⟩
  ihave Hp := (Entails.of_eq (rest_bar SB WQ WO HQ HO c)) $$ Hp
  iapply Hk
  isplitl [Ha]; · iexact Ha
  isplitl [Hp]; · iapply land_all; iexact Hp
  iexists _; iexact HO

end Protocol

end Cert.KernelIdeal.Run

end
-- ==== Proof.RunOut.lean ====
/- The stretches that store the summed rows into the output window, and the values they leave. -/
module

public import proofs.«01_k».proof.Proof.Comm

@[expose] public section

set_option maxRecDepth 65536
set_option maxHeartbeats 4000000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

/-! ## The values stored -/

def o384 (A B : Vec F S1x384x1024 .bf16) : Vec F S384x1024 .f32 :=
  addf (extf .f32 (shapeCast S384x1024 A shapeCasts_S1x384x1024_S384x1024) bitsLt_bf16_f32)
    (extf .f32 (shapeCast S384x1024 B shapeCasts_S1x384x1024_S384x1024) bitsLt_bf16_f32)
def o320 (A B : Vec F S1x320x1024 .bf16) : Vec F S320x1024 .f32 :=
  addf (extf .f32 (shapeCast S320x1024 A shapeCasts_S1x320x1024_S320x1024) bitsLt_bf16_f32)
    (extf .f32 (shapeCast S320x1024 B shapeCasts_S1x320x1024_S320x1024) bitsLt_bf16_f32)

theorem o384_apply (A B : Vec F S1x384x1024 .bf16) (U W : Vec F S1024x1024 .bf16) (z : S384x1024.Idx) (p : S1024x1024.Idx)
    (hA : A (ix3 0 (z 0) (z 1)) = U p) (hB : B (ix3 0 (z 0) (z 1)) = W p) :
    o384 A B z = addf (extf .f32 U bitsLt_bf16_f32) (extf .f32 W bitsLt_bf16_f32) p := by
  unfold o384
  pointwise
  rw [hA, hB]
theorem o320_apply (A B : Vec F S1x320x1024 .bf16) (U W : Vec F S1024x1024 .bf16) (z : S320x1024.Idx) (p : S1024x1024.Idx)
    (hA : A (ix3 0 (z 0) (z 1)) = U p) (hB : B (ix3 0 (z 0) (z 1)) = W p) :
    o320 A B z = addf (extf .f32 U bitsLt_bf16_f32) (extf .f32 W bitsLt_bf16_f32) p := by
  unfold o320
  pointwise
  rw [hA, hB]

theorem inb_out (b : Fin 16) : ∀ a, (![64 * b.val, 0] : Fin 2 → ℕ) a + S64x1024.size a ≤ S1024x1024.size a := by revert b; decide
theorem slc_384 (j : Fin 6) : S384x1024.Slices ![64 * j.val, 0] S64x1024 := by revert j; decide
theorem slc_320 (j : Fin 5) : S320x1024.Slices ![64 * j.val, 0] S64x1024 := by revert j; decide

/-- The six stores of the rows ≡ 0. -/
def outL0 (A B : Vec F S1x384x1024 .bf16) : List (View.Piece (Elt F) S1024x1024 .f32) :=
  ([5, 4, 3, 2, 1, 0] : List (Fin 6)).map fun j =>
    ⟨Rect.unit (s := S1024x1024) ![64 * (3 * j.val), 0] S64x1024.size (inb_out ⟨3 * j.val, by omega⟩),
      extractStridedSlice S64x1024 ![64 * j.val, 0] (o384 A B) (slc_384 j)⟩
/-- The five stores of the rows of another group. -/
def outL1 (o : Fin 3) (A B : Vec F S1x320x1024 .bf16) : List (View.Piece (Elt F) S1024x1024 .f32) :=
  ([4, 3, 2, 1, 0] : List (Fin 5)).map fun j =>
    ⟨Rect.unit (s := S1024x1024) ![64 * (3 * j.val + o.val), 0] S64x1024.size (inb_out ⟨3 * j.val + o.val, by omega⟩),
      extractStridedSlice S64x1024 ![64 * j.val, 0] (o320 A B) (slc_320 j)⟩

theorem out0 (c : Dev nD) (f : Vec F S1024x1024 .f32) (A B : Vec F S1x384x1024 .bf16)
    {R : Type} (κ : Prog (TpuEff nD τ sig (Elt F) Λ₀ .tc) R) (Q : R → sProp 𝕄) :
    iprop(oS.view.loc (c : Thread nD τ) ↦{fullShare} f)
      ⊢ iprop((iprop(oS.view.loc (c : Thread nD τ) ↦{fullShare} (oS.view.writes (Elt F) f (outL0 A B)))
          -∗ wp frame (wpE (defs₀ (F := F)) 𝒱₀ (c : Thread nD τ) none) Set.univ κ Q)
        -∗ wp frame (wpE (defs₀ (F := F)) 𝒱₀ (c : Thread nD τ) none) Set.univ (s18 oS A B κ) Q) := by
  iintro H Hκ
  unfold s18
  sl_exec
  iapply Hκ
  iexact H
theorem out1 (c : Dev nD) (f : Vec F S1024x1024 .f32) (A B : Vec F S1x320x1024 .bf16)
    {R : Type} (κ : Prog (TpuEff nD τ sig (Elt F) Λ₀ .tc) R) (Q : R → sProp 𝕄) :
    iprop(oS.view.loc (c : Thread nD τ) ↦{fullShare} f)
      ⊢ iprop((iprop(oS.view.loc (c : Thread nD τ) ↦{fullShare} (oS.view.writes (Elt F) f (outL1 1 A B)))
          -∗ wp frame (wpE (defs₀ (F := F)) 𝒱₀ (c : Thread nD τ) none) Set.univ κ Q)
        -∗ wp frame (wpE (defs₀ (F := F)) 𝒱₀ (c : Thread nD τ) none) Set.univ (s23 oS A B κ) Q) := by
  iintro H Hκ
  unfold s23
  sl_exec
  iapply Hκ
  iexact H

theorem out2 (c : Dev nD) (f : Vec F S1024x1024 .f32) (A B : Vec F S1x320x1024 .bf16)
    {R : Type} (κ : Prog (TpuEff nD τ sig (Elt F) Λ₀ .tc) R) (Q : R → sProp 𝕄) :
    iprop(oS.view.loc (c : Thread nD τ) ↦{fullShare} f)
      ⊢ iprop((iprop(oS.view.loc (c : Thread nD τ) ↦{fullShare} (oS.view.writes (Elt F) f (outL1 2 A B)))
          -∗ wp frame (wpE (defs₀ (F := F)) 𝒱₀ (c : Thread nD τ) none) Set.univ κ Q)
        -∗ wp frame (wpE (defs₀ (F := F)) 𝒱₀ (c : Thread nD τ) none) Set.univ (s26 oS A B κ) Q) := by
  iintro H Hκ
  unfold s26
  sl_exec
  iapply Hκ
  iexact H

section
variable (PP : Dev nD → Vec F S1024x1024 .bf16) (c : Dev nD)

theorem sbV_lo (y : S2x1024x1024.Idx) (p : S1024x1024.Idx) (h0 : (y 0).val = 0) (h1 : (y 1).val = (p 0).val) (h2 : (y 2).val = (p 1).val) :
    sbV PP c y = PP c p := by
  unfold sbV
  rw [if_pos h0]
  congr 1
  refine Eq.trans ?_ (eq_ix2 p).symm
  congr 1 <;> apply Fin.ext <;> assumption
theorem sbV_hi (y : S2x1024x1024.Idx) (p : S1024x1024.Idx) (h0 : (y 0).val ≠ 0) (h1 : (y 1).val = (p 0).val) (h2 : (y 2).val = (p 1).val) :
    sbV PP c y = sum1 PP c p := by
  unfold sbV
  rw [if_neg h0]
  congr 1
  refine Eq.trans ?_ (eq_ix2 p).symm
  congr 1 <;> apply Fin.ext <;> assumption

theorem rowOf_block (b : Fin 16) (r : Fin 1024) (k : ℕ) (hk : k < 64) (hr : r.val = 64 * b.val + k) :
    (rowOf r).val = 64 * (blkOf b).val + k := by
  have d : (⟨r.val / 64, by omega⟩ : Fin 16) = b := Fin.ext (by simp only; omega)
  unfold rowOf
  simp only [d]
  omega

/-- What a piece of the sent buffer is read as. -/
abbrev pc (i : Fin 6) (d : Dev nD) : (pRect i).shape.Idx → Elt F .bf16 := fun x => sbV PP d ((pRect i).emb x)

theorem blkOf_0 (j : Fin 6) : blkOf ⟨3 * j.val, by omega⟩ = ⟨j.val, by omega⟩ := by revert j; decide
theorem blkOf_1 (j : Fin 5) : blkOf ⟨3 * j.val + 1, by omega⟩ = ⟨6 + j.val, by omega⟩ := by revert j; decide
theorem blkOf_2 (j : Fin 5) : blkOf ⟨3 * j.val + 2, by omega⟩ = ⟨11 + j.val, by omega⟩ := by revert j; decide

theorem prt1_of (r : Fin 1024) (g : Fin 3) (h : grp r = g) : prt1 r c = prt ⟨g.val, by omega⟩ c := by subst h; rfl
theorem prt2_of (r : Fin 1024) (g : Fin 3) (h : grp r = g) : prt2 r c = prt ⟨3 + g.val, by omega⟩ c := by subst h; rfl
theorem grp_0 (r : Fin 1024) (h : r.val < 384) : grp r = 0 := if_pos h
theorem grp_1 (r : Fin 1024) (h : 384 ≤ r.val) (h' : r.val < 704) : grp r = 1 := (if_neg (by omega)).trans (if_pos h')
theorem grp_2 (r : Fin 1024) (h : 704 ≤ r.val) : grp r = 2 := (if_neg (by omega)).trans (if_neg (by omega))

theorem pc0 (d : Dev nD) (w : S1x384x1024.Idx) (p : S1024x1024.Idx) (h1 : 0 + (w 1).val = (p 0).val) (h2 : (w 2).val = (p 1).val) :
    pc PP 0 d w = PP d p :=
  sbV_lo PP d _ _ ((emb_val _ _ _ _ _).trans (by have : (w 0).val < 1 := (w 0).isLt; show 0 + (w 0).val = 0; omega)) ((emb_val _ _ _ _ _).trans h1) ((emb_val _ _ _ _ _).trans ((Nat.zero_add _).trans h2))
theorem pc1 (d : Dev nD) (w : S1x320x1024.Idx) (p : S1024x1024.Idx) (h1 : 384 + (w 1).val = (p 0).val) (h2 : (w 2).val = (p 1).val) :
    pc PP 1 d w = PP d p :=
  sbV_lo PP d _ _ ((emb_val _ _ _ _ _).trans (by have : (w 0).val < 1 := (w 0).isLt; show 0 + (w 0).val = 0; omega)) ((emb_val _ _ _ _ _).trans h1) ((emb_val _ _ _ _ _).trans ((Nat.zero_add _).trans h2))
theorem pc2 (d : Dev nD) (w : S1x320x1024.Idx) (p : S1024x1024.Idx) (h1 : 704 + (w 1).val = (p 0).val) (h2 : (w 2).val = (p 1).val) :
    pc PP 2 d w = PP d p :=
  sbV_lo PP d _ _ ((emb_val _ _ _ _ _).trans (by have : (w 0).val < 1 := (w 0).isLt; show 0 + (w 0).val = 0; omega)) ((emb_val _ _ _ _ _).trans h1) ((emb_val _ _ _ _ _).trans ((Nat.zero_add _).trans h2))
theorem pc3 (d : Dev nD) (w : S1x384x1024.Idx) (p : S1024x1024.Idx) (h1 : 0 + (w 1).val = (p 0).val) (h2 : (w 2).val = (p 1).val) :
    pc PP 3 d w = sum1 PP d p :=
  sbV_hi PP d _ _ (by rw [emb_val]; show 1 + (w 0).val ≠ 0; omega) ((emb_val _ _ _ _ _).trans h1) ((emb_val _ _ _ _ _).trans ((Nat.zero_add _).trans h2))
theorem pc4 (d : Dev nD) (w : S1x320x1024.Idx) (p : S1024x1024.Idx) (h1 : 384 + (w 1).val = (p 0).val) (h2 : (w 2).val = (p 1).val) :
    pc PP 4 d w = sum1 PP d p :=
  sbV_hi PP d _ _ (by rw [emb_val]; show 1 + (w 0).val ≠ 0; omega) ((emb_val _ _ _ _ _).trans h1) ((emb_val _ _ _ _ _).trans ((Nat.zero_add _).trans h2))
theorem pc5 (d : Dev nD) (w : S1x320x1024.Idx) (p : S1024x1024.Idx) (h1 : 704 + (w 1).val = (p 0).val) (h2 : (w 2).val = (p 1).val) :
    pc PP 5 d w = sum1 PP d p :=
  sbV_hi PP d _ _ (by rw [emb_val]; show 1 + (w 0).val ≠ 0; omega) ((emb_val _ _ _ _ _).trans h1) ((emb_val _ _ _ _ _).trans ((Nat.zero_add _).trans h2))

theorem out0_at (j : Fin 6) (x : S64x1024.Idx) (y : S1024x1024.Idx) (h0 : (y 0).val = 64 * (3 * j.val) + (x 0).val) (h1 : (y 1).val = (x 1).val) :
    extractStridedSlice S64x1024 ![64 * j.val, 0] (o384 (pc PP 3 c) (pc PP 3 (prt 3 c))) (slc_384 j) x = outV PP c y := by
  have hx : (x 0).val < 64 := (x 0).isLt
  have hr : (rowOf (y 0)).val = 64 * j.val + (x 0).val := by
    have h := rowOf_block ⟨3 * j.val, by omega⟩ (y 0) (x 0).val hx h0
    rw [blkOf_0] at h
    simp only at h
    omega
  have hp : prt2 (rowOf (y 0)) c = prt 3 c := prt2_of c _ 0 (grp_0 _ (by have := j.isLt; omega))
  unfold outV
  rw [hp]
  refine o384_apply _ _ (sum1 PP c) (sum1 PP (prt 3 c)) _ (ix2 (rowOf (y 0)) (y 1)) ?_ ?_
  · exact pc3 PP c _ _ (by show 0 + (64 * j.val + (x 0).val) = (rowOf (y 0)).val; omega) (by show 0 + (x 1).val = (y 1).val; omega)
  · exact pc3 PP _ _ _ (by show 0 + (64 * j.val + (x 0).val) = (rowOf (y 0)).val; omega) (by show 0 + (x 1).val = (y 1).val; omega)

theorem out1_at (j : Fin 5) (x : S64x1024.Idx) (y : S1024x1024.Idx) (h0 : (y 0).val = 64 * (3 * j.val + 1) + (x 0).val) (h1 : (y 1).val = (x 1).val) :
    extractStridedSlice S64x1024 ![64 * j.val, 0] (o320 (pc PP 4 c) (pc PP 4 (prt 4 c))) (slc_320 j) x = outV PP c y := by
  have hx : (x 0).val < 64 := (x 0).isLt
  have hr : (rowOf (y 0)).val = 384 + 64 * j.val + (x 0).val := by
    have h := rowOf_block ⟨3 * j.val + 1, by omega⟩ (y 0) (x 0).val hx h0
    rw [blkOf_1] at h
    simp only at h
    omega
  have hp : prt2 (rowOf (y 0)) c = prt 4 c := prt2_of c _ 1 (grp_1 _ (by omega) (by have := j.isLt; omega))
  unfold outV
  rw [hp]
  refine o320_apply _ _ (sum1 PP c) (sum1 PP (prt 4 c)) _ (ix2 (rowOf (y 0)) (y 1)) ?_ ?_
  · exact pc4 PP c _ _ (by show 384 + (64 * j.val + (x 0).val) = (rowOf (y 0)).val; omega) (by show 0 + (x 1).val = (y 1).val; omega)
  · exact pc4 PP _ _ _ (by show 384 + (64 * j.val + (x 0).val) = (rowOf (y 0)).val; omega) (by show 0 + (x 1).val = (y 1).val; omega)

theorem out2_at (j : Fin 5) (x : S64x1024.Idx) (y : S1024x1024.Idx) (h0 : (y 0).val = 64 * (3 * j.val + 2) + (x 0).val) (h1 : (y 1).val = (x 1).val) :
    extractStridedSlice S64x1024 ![64 * j.val, 0] (o320 (pc PP 5 c) (pc PP 5 (prt 5 c))) (slc_320 j) x = outV PP c y := by
  have hx : (x 0).val < 64 := (x 0).isLt
  have hr : (rowOf (y 0)).val = 704 + 64 * j.val + (x 0).val := by
    have h := rowOf_block ⟨3 * j.val + 2, by omega⟩ (y 0) (x 0).val hx h0
    rw [blkOf_2] at h
    simp only at h
    omega
  have hp : prt2 (rowOf (y 0)) c = prt 5 c := prt2_of c _ 2 (grp_2 _ (by omega))
  unfold outV
  rw [hp]
  refine o320_apply _ _ (sum1 PP c) (sum1 PP (prt 5 c)) _ (ix2 (rowOf (y 0)) (y 1)) ?_ ?_
  · exact pc5 PP c _ _ (by show 704 + (64 * j.val + (x 0).val) = (rowOf (y 0)).val; omega) (by show 0 + (x 1).val = (y 1).val; omega)
  · exact pc5 PP _ _ _ (by show 704 + (64 * j.val + (x 0).val) = (rowOf (y 0)).val; omega) (by show 0 + (x 1).val = (y 1).val; omega)

/-- All sixteen stores. -/
def outAll : List (View.Piece (Elt F) S1024x1024 .f32) :=
  outL1 2 (pc PP 5 c) (pc PP 5 (prt 5 c)) ++ (outL1 1 (pc PP 4 c) (pc PP 4 (prt 4 c)) ++ outL0 (pc PP 3 c) (pc PP 3 (prt 3 c)))

theorem outAll_agree : ∀ p ∈ outAll PP c, ∀ x : p.1.shape.Idx, p.2 x = outV PP c (p.1.emb x) := by
  intro p hp
  unfold outAll at hp
  rcases List.mem_append.mp hp with hp | hp
  · obtain ⟨j, -, rfl⟩ := List.mem_map.mp hp
    exact fun x => out2_at PP c j x _ (emb_val (s := S1024x1024) ![64 * (3 * j.val + 2), 0] S64x1024.size (inb_out ⟨3 * j.val + 2, by omega⟩) x 0)
      ((emb_val (s := S1024x1024) ![64 * (3 * j.val + 2), 0] S64x1024.size (inb_out ⟨3 * j.val + 2, by omega⟩) x 1).trans (Nat.zero_add _))
  rcases List.mem_append.mp hp with hp | hp
  · obtain ⟨j, -, rfl⟩ := List.mem_map.mp hp
    exact fun x => out1_at PP c j x _ (emb_val (s := S1024x1024) ![64 * (3 * j.val + 1), 0] S64x1024.size (inb_out ⟨3 * j.val + 1, by omega⟩) x 0)
      ((emb_val (s := S1024x1024) ![64 * (3 * j.val + 1), 0] S64x1024.size (inb_out ⟨3 * j.val + 1, by omega⟩) x 1).trans (Nat.zero_add _))
  · obtain ⟨j, -, rfl⟩ := List.mem_map.mp hp
    exact fun x => out0_at PP c j x _ (emb_val (s := S1024x1024) ![64 * (3 * j.val), 0] S64x1024.size (inb_out ⟨3 * j.val, by omega⟩) x 0)
      ((emb_val (s := S1024x1024) ![64 * (3 * j.val), 0] S64x1024.size (inb_out ⟨3 * j.val, by omega⟩) x 1).trans (Nat.zero_add _))

theorem outAll_cover : ∀ y, ∃ p ∈ outAll PP c, y ∈ p.1.set :=
  View.cover_of_tiled (outAll PP c) S64x1024.size rfl

/-- The three stretches of stores leave the result. -/
theorem outAll_eq (f : Vec F S1024x1024 .f32) :
    oS.view.writes (Elt F) (oS.view.writes (Elt F) (oS.view.writes (Elt F) f (outL0 (pc PP 3 c) (pc PP 3 (prt 3 c))))
      (outL1 1 (pc PP 4 c) (pc PP 4 (prt 4 c)))) (outL1 2 (pc PP 5 c) (pc PP 5 (prt 5 c))) = outV PP c := by
  rw [← View.writes_append, ← View.writes_append]
  exact writes_eq cc0_stg3_0 f (outV PP c) (outAll PP c) (outAll_agree PP c) (outAll_cover PP c)

/-! ## The values of the pieces sent -/

theorem sum_0 (x : S1x384x1024.Idx) :
    shapeCast S1x384x1024 (addf (shapeCast S384x1024 (pc PP 0 c) shapeCasts_S1x384x1024_S384x1024)
      (shapeCast S384x1024 (pc PP 0 (prt 0 c)) shapeCasts_S1x384x1024_S384x1024)) shapeCasts_S384x1024_S1x384x1024 x = sbV PP c ((pRect 3).emb x) := by
  have hx : (x 1).val < 384 := (x 1).isLt
  have hr : 0 + (x 1).val < 1024 := by omega
  refine Eq.trans ?_ (pc3 PP c x (ix2 ⟨0 + (x 1).val, hr⟩ (x 2)) rfl rfl).symm
  unfold sum1
  have hp : prt1 ⟨0 + (x 1).val, hr⟩ c = prt 0 c := prt1_of c _ 0 (grp_0 _ (by show 0 + (x 1).val < 384; omega))
  refine Eq.trans ?_ (congrArg (fun d => addf (PP c) (PP d) (ix2 ⟨0 + (x 1).val, hr⟩ (x 2))) hp).symm
  pointwise
  rw [pc0 PP c _ (ix2 ⟨0 + (x 1).val, hr⟩ (x 2)) rfl rfl, pc0 PP _ _ (ix2 ⟨0 + (x 1).val, hr⟩ (x 2)) rfl rfl]
  simp only [Nat.zero_add]

theorem sum_1 (x : S1x320x1024.Idx) :
    shapeCast S1x320x1024 (addf (shapeCast S320x1024 (pc PP 1 c) shapeCasts_S1x320x1024_S320x1024)
      (shapeCast S320x1024 (pc PP 1 (prt 1 c)) shapeCasts_S1x320x1024_S320x1024)) shapeCasts_S320x1024_S1x320x1024 x = sbV PP c ((pRect 4).emb x) := by
  have hx : (x 1).val < 320 := (x 1).isLt
  have hr : 384 + (x 1).val < 1024 := by omega
  refine Eq.trans ?_ (pc4 PP c x (ix2 ⟨384 + (x 1).val, hr⟩ (x 2)) rfl rfl).symm
  unfold sum1
  have hp : prt1 ⟨384 + (x 1).val, hr⟩ c = prt 1 c := prt1_of c _ 1 (grp_1 _ (by show 384 ≤ 384 + (x 1).val; omega) (by show 384 + (x 1).val < 704; omega))
  refine Eq.trans ?_ (congrArg (fun d => addf (PP c) (PP d) (ix2 ⟨384 + (x 1).val, hr⟩ (x 2))) hp).symm
  pointwise
  rw [pc1 PP c _ (ix2 ⟨384 + (x 1).val, hr⟩ (x 2)) rfl rfl, pc1 PP _ _ (ix2 ⟨384 + (x 1).val, hr⟩ (x 2)) rfl rfl]

theorem sum_2 (x : S1x320x1024.Idx) :
    shapeCast S1x320x1024 (addf (shapeCast S320x1024 (pc PP 2 c) shapeCasts_S1x320x1024_S320x1024)
      (shapeCast S320x1024 (pc PP 2 (prt 2 c)) shapeCasts_S1x320x1024_S320x1024)) shapeCasts_S320x1024_S1x320x1024 x = sbV PP c ((pRect 5).emb x) := by
  have hx : (x 1).val < 320 := (x 1).isLt
  have hr : 704 + (x 1).val < 1024 := by omega
  refine Eq.trans ?_ (pc5 PP c x (ix2 ⟨704 + (x 1).val, hr⟩ (x 2)) rfl rfl).symm
  unfold sum1
  have hp : prt1 ⟨704 + (x 1).val, hr⟩ c = prt 2 c := prt1_of c _ 2 (grp_2 _ (by show 704 ≤ 704 + (x 1).val; omega))
  refine Eq.trans ?_ (congrArg (fun d => addf (PP c) (PP d) (ix2 ⟨704 + (x 1).val, hr⟩ (x 2))) hp).symm
  pointwise
  rw [pc2 PP c _ (ix2 ⟨704 + (x 1).val, hr⟩ (x 2)) rfl rfl, pc2 PP _ _ (ix2 ⟨704 + (x 1).val, hr⟩ (x 2)) rfl rfl]

section
variable (q k v : Vec F S1024x1024 .bf16) (wo : Vec F S1024x1024 .f32) (hP : PP c = part q k v wo)
include hP

theorem part_0 (x : S1x384x1024.Idx) :
    shapeCast S1x384x1024 (out384 (ctx0 q k v) wo) shapeCasts_S384x1024_S1x384x1024 x = sbV PP c ((pRect 0).emb x) := by
  have hx : (x 1).val < 384 := (x 1).isLt
  refine Eq.trans ?_ (pc0 PP c x (ix2 ⟨0 + (x 1).val, by omega⟩ (x 2)) rfl rfl).symm
  rw [hP]
  unfold part
  refine Eq.trans ?_ (dif_pos (show 0 + (x 1).val < 384 by omega)).symm
  pointwise

theorem part_1 (x : S1x320x1024.Idx) :
    shapeCast S1x320x1024 (out320 (ctx1 384 704 (by omega) (by omega) q k v) wo) shapeCasts_S320x1024_S1x320x1024 x = sbV PP c ((pRect 1).emb x) := by
  have hx : (x 1).val < 320 := (x 1).isLt
  refine Eq.trans ?_ (pc1 PP c x (ix2 ⟨384 + (x 1).val, by omega⟩ (x 2)) rfl rfl).symm
  rw [hP]
  unfold part
  refine Eq.trans ?_ ((dif_neg (show ¬ 384 + (x 1).val < 384 by omega)).trans (dif_pos (show 384 + (x 1).val < 704 by omega))).symm
  pointwise

theorem part_2 (x : S1x320x1024.Idx) :
    shapeCast S1x320x1024 (out320 (ctx1 704 384 (by omega) (by omega) q k v) wo) shapeCasts_S320x1024_S1x320x1024 x = sbV PP c ((pRect 2).emb x) := by
  have hx : (x 1).val < 320 := (x 1).isLt
  refine Eq.trans ?_ (pc2 PP c x (ix2 ⟨704 + (x 1).val, by omega⟩ (x 2)) rfl rfl).symm
  rw [hP]
  unfold part
  refine Eq.trans ?_ ((dif_neg (show ¬ 704 + (x 1).val < 384 by omega)).trans (dif_neg (show ¬ 704 + (x 1).val < 704 by omega))).symm
  pointwise

end
end

end Cert.KernelIdeal.Run

end
-- ==== Proof.RunSteps.lean ====
/- The stretches in which the device waits, sends and moves pieces, one lemma each. -/
module

public import proofs.«01_k».proof.Proof.RunOut

@[expose] public section

set_option maxRecDepth 65536
set_option maxHeartbeats 400000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev w1 : Memref sig .tc .hbm S1024x4096 .f32 := Memref.whole main_arg1
abbrev w4 : Memref sig .tc .hbm S4096x1024 .f32 := Memref.whole main_arg4
abbrev cS : DmaSems sig S2 := cc0_scratch8
abbrev sS : DmaSems sig S2x3 := cc0_scratch9
abbrev rS : DmaSems sig S2x3 := cc0_scratch10

theorem dev1_eq (c : Dev nD) : (⟨k0_dev1 c, k0_dev1_lt c⟩ : Dev nD) = pa c := by revert c; decide
theorem dev2_eq (c : Dev nD) : (⟨k0_dev2 c, k0_dev2_lt c⟩ : Dev nD) = pb c := by revert c; decide
theorem dev3_eq (c : Dev nD) : (⟨k0_dev3 c, k0_dev3_lt c⟩ : Dev nD) = prt 0 c := by revert c; decide
theorem dev4_eq (c : Dev nD) : (⟨k0_dev4 c, k0_dev4_lt c⟩ : Dev nD) = prt 1 c := by revert c; decide
theorem dev5_eq (c : Dev nD) : (⟨k0_dev5 c, k0_dev5_lt c⟩ : Dev nD) = prt 3 c := by revert c; decide
theorem dev6_eq (c : Dev nD) : (⟨k0_dev6 c, k0_dev6_lt c⟩ : Dev nD) = prt 2 c := by revert c; decide
theorem dev7_eq (c : Dev nD) : (⟨k0_dev7 c, k0_dev7_lt c⟩ : Dev nD) = prt 4 c := by revert c; decide
theorem dev8_eq (c : Dev nD) : (⟨k0_dev8 c, k0_dev8_lt c⟩ : Dev nD) = prt 5 c := by revert c; decide

variable (PP : Dev nD → Vec F S1024x1024 .bf16)
  (HQ : (c : Dev nD) → Buf (Elt F) ((c : Thread nD τ).loc main_arg1)) (HO : (c : Dev nD) → Buf (Elt F) ((c : Thread nD τ).loc main_arg4))

/-- The blocks of the weights a device takes. -/
abbrev WQ (c : Dev nD) : WBuf F := (wqV c).view.read (Elt F) (HQ c)
abbrev WO (c : Dev nD) : WBuf F := (woV c).view.read (Elt F) (HO c)

variable (K : GSem nD τ sig → ℕ) (c : Dev nD)

local notation "𝓘" => Inv (sbV PP) (WQ HQ) (WO HO) HQ HO K c

/-- The pieces of the weight arrays being copied, and where they go. -/
abbrev srcQ : sProp 𝕄 := (wqV c).view.loc (c : Thread nD τ) ↦[(wqV c).view.set]{fullShare} HQ c
abbrev srcO : sProp 𝕄 := (woV c).view.loc (c : Thread nD τ) ↦[(woV c).view.set]{fullShare} HO c

theorem wqM_set : wqM.view.set = Finset.univ := (Memref.isWhole_whole cc0_scratch6).set_eq_univ
theorem woM_set : woM.view.set = Finset.univ := (Memref.isWhole_whole cc0_scratch7).set_eq_univ

omit [FloatOps F] in
theorem write_whole (b : Ref sig .tc) (f w : b.ty.Contents (Elt F)) :
    (Memref.whole b : Memref sig .tc _ b.ty.shape b.ty.elt).view.write (Elt F) f w Finset.univ = w :=
  funext fun y => View.write_emb_of_mem (v := (Memref.whole b : Memref sig .tc _ b.ty.shape b.ty.elt).view) f w (Finset.mem_univ y)

theorem pay_q (g : WBuf F) : iprop((wqM.view.loc (c : Thread nD τ) ↦[wqM.view.set]{fullShare}
      (wqM.view.write (Elt F) g ((wqV c).view.read (Elt F) (HQ c)) Finset.univ)) ∗ srcQ HQ c)
    = (oPay (sbV PP) (WQ HQ) (WO HO) HQ HO (cpK 0) c : sProp 𝕄) := by
  rw [show wqM.view.write (Elt F) g ((wqV c).view.read (Elt F) (HQ c)) Finset.univ = WQ HQ c from write_whole cc0_scratch6 g _]
  unfold oPay
  exact (if_pos (show (cpK 0).val = 0 from rfl)).symm
theorem pay_o (g : WBuf F) : iprop((woM.view.loc (c : Thread nD τ) ↦[woM.view.set]{fullShare}
      (woM.view.write (Elt F) g ((woV c).view.read (Elt F) (HO c)) Finset.univ)) ∗ srcO HO c)
    = (oPay (sbV PP) (WQ HQ) (WO HO) HQ HO (cpK 1) c : sProp 𝕄) := by
  rw [show woM.view.write (Elt F) g ((woV c).view.read (Elt F) (HO c)) Finset.univ = WO HO c from write_whole cc0_scratch7 g _]
  unfold oPay
  exact ((if_neg (show ¬ (cpK 1).val = 0 by decide)).trans (if_pos (show (cpK 1).val = 1 from rfl))).symm

theorem step1 (g12 g13 : WBuf F) {R : Type} {Q : R → sProp 𝕄} {κ : Dev nD → Prog (TpuEff nD τ sig (Elt F) Λ₀ .tc) R} :
    iprop(𝓘 ∗ C0 0 c ∗ C0 1 c ∗ srcQ HQ c ∗ srcO HO c ∗ (wqM.view.loc (c : Thread nD τ) ↦{fullShare} g12) ∗ (woM.view.loc (c : Thread nD τ) ↦{fullShare} g13)
        ∗ B0 c ∗ (bigSep Finset.univ fun i : Fin 6 => iprop(∃ f, rP i c f)) ∗ Ow c (O₀ c))
      ⊢ iprop(((C1 0 c ∗ C1 1 c ∗ atPos ER (barCell c) (0 + 1) ∅ 0 ∗ (bigSep Finset.univ fun i : Fin 6 => Land i c) ∗ Ow c (oweR Finset.univ c))
          -∗ wp frame (wpE (defs₀ (F := F)) 𝒱₀ (c : Thread nD τ) none) Set.univ (κ c) Q)
        -∗ wp frame (wpE (defs₀ (F := F)) 𝒱₀ (c : Thread nD τ) none) Set.univ
          (s1 w1 w4 wqM (Memref.isWhole_whole _) woM (Memref.isWhole_whole _) cS κ) Q) := by
  iintro ⟨#HI, Hc0, Hc1, Hq, Ho, Hwq, Hwo, HB, Hr, HO⟩ Hk
  unfold s1
  simp only [semSignalWord, semWaitWord, Prog.lift, Prog.bind_op, Prog.bind_ret, wp_deviceId]
  iapply (start_copy (sbV PP) (WQ HQ) (WO HO) HQ HO K (c := c) 0 (src := wqV c) (dst := wqM) rfl rfl (HQ c) g12 (pay_q PP HQ HO c g12)) $$ [Hc0 Hq Hwq]
  · isplitr; · iexact HI
    isplitl [Hc0]; · iexact Hc0
    isplitl [Hq]; · iexact Hq
    rw [wqM_set]
    iexact Hwq
  iintro Hc0
  iapply (start_copy (sbV PP) (WQ HQ) (WO HO) HQ HO K (c := c) 1 (src := woV c) (dst := woM) rfl rfl (HO c) g13 (pay_o PP HQ HO c g13)) $$ [Hc1 Ho Hwo]
  · isplitr; · iexact HI
    isplitl [Hc1]; · iexact Hc1
    isplitl [Ho]; · iexact Ho
    rw [woM_set]
    iexact Hwo
  iintro Hc1
  iapply (barrier (sbV PP) (WQ HQ) (WO HO) HQ HO K (c := c) (dev1_eq c) (dev2_eq c)) $$ [HB Hr HO]
  · isplitr; · iexact HI
    isplitl [HB]; · iexact HB
    isplitl [Hr]; · iexact Hr
    iexact HO
  iintro ⟨Ha, HL, HO⟩
  iapply Hk
  isplitl [Hc0]; · iexact Hc0
  isplitl [Hc1]; · iexact Hc1
  isplitl [Ha]; · iexact Ha
  isplitl [HL]; · iexact HL
  iexact HO

theorem wait_of (k' : Fin 14) {sp sp' : Space} {s s' : Shape} {e e' : EltTy} {sem : DmaSem sig}
    {src : Memref sig .tc sp' s' e'} {dst : Memref sig .tc sp s e} {hsrc : src.view.WordExact} {hdst : dst.view.WordExact}
    (hs : SemLoc.dma sem = osem k') (hN : dst.view.dmaCredit = amt k') (X : PUnit → sProp 𝕄) :
    wpE (defs₀ (F := F)) 𝒱₀ (c : Thread nD τ) none Set.univ (.waitDma2 sem src dst hsrc hdst) X = waitSpec (c : Thread nD τ) Set.univ (osem k') (amt k') X := by
  rw [wpE_waitDma2_eq, hs, hN]

theorem full_emb {α : Type} (inb) (f : S1024x1024.Idx → α) :
    (fun x => f ((Rect.unit (s := S1024x1024) ![0, 0] S1024x1024.size inb).emb x)) = f := by
  funext x
  refine congrArg f (funext fun a => Fin.ext ((emb_val _ _ _ _ _).trans ?_))
  fin_cases a <;> exact Nat.zero_add _

theorem step3 (x : Vec F S1024x1024 .bf16) {R : Type} {Q : R → sProp 𝕄}
    {κ : Vec F S1024x1024 .f32 → Vec F S1024x1024 .bf16 → Prog (TpuEff nD τ sig (Elt F) Λ₀ .tc) R} :
    iprop(𝓘 ∗ C1 0 c ∗ C1 1 c ∗ (xM.view.loc (c : Thread nD τ) ↦{fullShare} x) ∗ Ow c (oweR Finset.univ c))
      ⊢ iprop(((atPos ER (oCell (cpK 0) c) (0 + 1) ∅ 0 ∗ atPos ER (oCell (cpK 1) c) (0 + 1) ∅ 0 ∗ srcQ HQ c ∗ srcO HO c
            ∗ (wqM.view.loc (c : Thread nD τ) ↦{fullShare} WQ HQ c) ∗ (woM.view.loc (c : Thread nD τ) ↦{fullShare} WO HO c)
            ∗ (xM.view.loc (c : Thread nD τ) ↦{fullShare} x) ∗ Ow c (oweR Finset.univ c))
          -∗ wp frame (wpE (defs₀ (F := F)) 𝒱₀ (c : Thread nD τ) none) Set.univ (κ (WQ HQ c) x) Q)
        -∗ wp frame (wpE (defs₀ (F := F)) 𝒱₀ (c : Thread nD τ) none) Set.univ (s3 w1 w4 xM wqM (Memref.isWhole_whole _) woM (Memref.isWhole_whole _) cS c κ) Q) := by
  iintro ⟨#HI, Hc0, Hc1, Hx, HO⟩ Hk
  unfold s3
  simp only [Prog.lift, Prog.bind_op, Prog.bind_ret]
  iapply (wait_copy (sbV PP) (WQ HQ) (WO HO) HQ HO K (c := c) 0 Finset.univ (wait_of c (cpK 0) (dst := wqM) rfl rfl)) $$ [Hc0 HO]
  · isplitr; · iexact HI
    isplitl [Hc0]; · iexact Hc0
    iexact HO
  rw [← pay_q PP HQ HO c (WQ HQ c), wqM_set, show wqM.view.write (Elt F) (WQ HQ c) ((wqV c).view.read (Elt F) (HQ c)) Finset.univ = WQ HQ c from write_whole cc0_scratch6 _ _]
  iintro ⟨Ha0, ⟨Hwq, Hq⟩, HO⟩
  iapply (wp_load_rect 𝒱₀ (c : Thread nD τ) none Set.univ (m := wqM) (r := Rect.unit (s := S1024x1024) ![0, 0] S1024x1024.size inb_S1024x1024_S1024x1024_0_0) (Finset.subset_univ _)) $$ Hwq
  iintro Hwq
  iapply (wp_load_rect 𝒱₀ (c : Thread nD τ) none Set.univ (m := xM) (r := Rect.unit (s := S1024x1024) ![0, 0] S1024x1024.size inb_S1024x1024_S1024x1024_0_0) (Finset.subset_univ _)) $$ Hx
  iintro Hx
  iapply (wait_copy (sbV PP) (WQ HQ) (WO HO) HQ HO K (c := c) 1 Finset.univ (wait_of c (cpK 1) (dst := woM) rfl rfl)) $$ [Hc1 HO]
  · isplitr; · iexact HI
    isplitl [Hc1]; · iexact Hc1
    iexact HO
  rw [← pay_o PP HQ HO c (WO HO c), woM_set, show woM.view.write (Elt F) (WO HO c) ((woV c).view.read (Elt F) (HO c)) Finset.univ = WO HO c from write_whole cc0_scratch7 _ _]
  iintro ⟨Ha1, ⟨Hwo, Ho⟩, HO⟩
  rw [show View.read (Elt F) (wqM.access (Rect.unit (s := S1024x1024) ![0, 0] S1024x1024.size inb_S1024x1024_S1024x1024_0_0)) (WQ HQ c) = WQ HQ c from full_emb inb_S1024x1024_S1024x1024_0_0 (WQ HQ c),
    show View.read (Elt F) (xM.access (Rect.unit (s := S1024x1024) ![0, 0] S1024x1024.size inb_S1024x1024_S1024x1024_0_0)) x = x from full_emb inb_S1024x1024_S1024x1024_0_0 x]
  iapply Hk
  isplitl [Ha0]; · iexact Ha0
  isplitl [Ha1]; · iexact Ha1
  isplitl [Hq]; · iexact Hq
  isplitl [Ho]; · iexact Ho
  isplitl [Hwq]; · iexact Hwq
  isplitl [Hwo]; · iexact Hwo
  isplitl [Hx]; · iexact Hx
  iexact HO

/-- The pieces as the transfers name them, of the sent buffer and of the received one. -/
abbrev sW0 : Memref sig .tc .vmem S384x1024 .bf16 := (sM.slice (pRect 0) (fun _ => rfl)).squeeze S384x1024 squeezes_S1x384x1024_S384x1024
abbrev rW0 : Memref sig .tc .vmem S384x1024 .bf16 := (rM.slice (pRect 0) (fun _ => rfl)).squeeze S384x1024 squeezes_S1x384x1024_S384x1024
abbrev sW1 : Memref sig .tc .vmem S320x1024 .bf16 := (sM.slice (pRect 1) (fun _ => rfl)).squeeze S320x1024 squeezes_S1x320x1024_S320x1024
abbrev rW1 : Memref sig .tc .vmem S320x1024 .bf16 := (rM.slice (pRect 1) (fun _ => rfl)).squeeze S320x1024 squeezes_S1x320x1024_S320x1024
abbrev sW2 : Memref sig .tc .vmem S320x1024 .bf16 := (sM.slice (pRect 2) (fun _ => rfl)).squeeze S320x1024 squeezes_S1x320x1024_S320x1024
abbrev rW2 : Memref sig .tc .vmem S320x1024 .bf16 := (rM.slice (pRect 2) (fun _ => rfl)).squeeze S320x1024 squeezes_S1x320x1024_S320x1024
abbrev sW3 : Memref sig .tc .vmem S384x1024 .bf16 := (sM.slice (pRect 3) (fun _ => rfl)).squeeze S384x1024 squeezes_S1x384x1024_S384x1024
abbrev rW3 : Memref sig .tc .vmem S384x1024 .bf16 := (rM.slice (pRect 3) (fun _ => rfl)).squeeze S384x1024 squeezes_S1x384x1024_S384x1024
abbrev sW4 : Memref sig .tc .vmem S320x1024 .bf16 := (sM.slice (pRect 4) (fun _ => rfl)).squeeze S320x1024 squeezes_S1x320x1024_S320x1024
abbrev rW4 : Memref sig .tc .vmem S320x1024 .bf16 := (rM.slice (pRect 4) (fun _ => rfl)).squeeze S320x1024 squeezes_S1x320x1024_S320x1024
abbrev sW5 : Memref sig .tc .vmem S320x1024 .bf16 := (sM.slice (pRect 5) (fun _ => rfl)).squeeze S320x1024 squeezes_S1x320x1024_S320x1024
abbrev rW5 : Memref sig .tc .vmem S320x1024 .bf16 := (rM.slice (pRect 5) (fun _ => rfl)).squeeze S320x1024 squeezes_S1x320x1024_S320x1024

/-- A piece that went out and came back, and the partner's that came in. -/
def Got (j : Fin 6) : sProp 𝕄 := iprop(T3 j c ∗ sP j c (sbV PP c) ∗ rP j c (sbV PP (prt j c)))

/-- The two waits of a piece. -/
theorem wait_both (j : Fin 6) {s : Finset (Fin 6)} (hj : ∀ x ∈ s, j < x) {R : Type} {Q : R → sProp 𝕄}
    {wS wR : TpuEff nD τ sig (Elt F) Λ₀ (Proc.tc) PUnit}
    (hS : ∀ X : PUnit → sProp 𝕄, wpE (defs₀ (F := F)) 𝒱₀ (c : Thread nD τ) none Set.univ wS X = waitSpec (c : Thread nD τ) Set.univ (osem (sndK j)) (amt (sndK j)) X)
    (hR : ∀ X : PUnit → sProp 𝕄, wpE (defs₀ (F := F)) 𝒱₀ (c : Thread nD τ) none Set.univ wR X = waitSpec (c : Thread nD τ) Set.univ (osem (rcvK j)) (amt (rcvK j)) X)
    {k : PUnit → Prog (TpuEff nD τ sig (Elt F) Λ₀ .tc) R} :
    iprop(𝓘 ∗ T1 j c ∗ Ow c (oweR s c))
      ⊢ iprop(((Got PP c j ∗ Ow c (oweR s c)) -∗ wp frame (wpE (defs₀ (F := F)) 𝒱₀ (c : Thread nD τ) none) Set.univ (k ⟨⟩) Q)
        -∗ wp frame (wpE (defs₀ (F := F)) 𝒱₀ (c : Thread nD τ) none) Set.univ (.op wS fun _ => .op wR k) Q) := by
  unfold Got
  iintro ⟨#HI, HT, HO⟩ Hk
  iapply (wait_snd (sbV PP) (WQ HQ) (WO HO) HQ HO K (c := c) j s hS) $$ [HT HO]
  · isplitr; · iexact HI
    isplitl [HT]; · iexact HT
    iexact HO
  iintro ⟨HT, Hs, HO⟩
  iapply (wait_rcv (sbV PP) (WQ HQ) (WO HO) HQ HO K (c := c) j s hj hR) $$ [HT HO]
  · isplitr; · iexact HI
    isplitl [HT]; · iexact HT
    iexact HO
  iintro ⟨HT, Hr, HO⟩
  iapply Hk
  isplitr [HO]
  · isplitl [HT]; · iexact HT
    isplitl [Hs]; · iexact Hs
    iexact Hr
  iexact HO

theorem step6 {R : Type} {Q : R → sProp 𝕄} {κ : Prog (TpuEff nD τ sig (Elt F) Λ₀ .tc) R} :
    iprop(𝓘 ∗ T0 0 c ∗ Land 0 c ∗ sP 0 c (sbV PP c) ∗ Ow c (oweR (insert 0 ({1, 2, 3, 4, 5} : Finset (Fin 6))) c))
      ⊢ iprop(((T1 0 c ∗ Ow c (oweR ({1, 2, 3, 4, 5} : Finset (Fin 6)) c)) -∗ wp frame (wpE (defs₀ (F := F)) 𝒱₀ (c : Thread nD τ) none) Set.univ κ Q)
        -∗ wp frame (wpE (defs₀ (F := F)) 𝒱₀ (c : Thread nD τ) none) Set.univ (s6 sM (Memref.isWhole_whole _) rM (Memref.isWhole_whole _) sS rS c κ) Q) := by
  unfold s6
  simp only [Prog.lift, Prog.bind_op, Prog.bind_ret]
  exact send_piece (sbV PP) (WQ HQ) (WO HO) HQ HO K (c := c) (k := fun _ => κ) 0 (dev3_eq c) ({1, 2, 3, 4, 5} : Finset (Fin 6)) (by decide) rfl rfl rfl rfl

/-- A send of one piece, then what follows it. -/
theorem send_wait {i j : Fin 6} {S : Finset (Fin 6)} (s : Finset (Fin 6)) {R : Type} {Q : R → sProp 𝕄} {p p' p'' : Prog (TpuEff nD τ sig (Elt F) Λ₀ .tc) R}
    (h1 : iprop(𝓘 ∗ T0 i c ∗ Land i c ∗ sP i c (sbV PP c) ∗ Ow c (oweR S c)) ⊢ iprop(((T1 i c ∗ Ow c (oweR s c)) -∗ wp frame (wpE (defs₀ (F := F)) 𝒱₀ (c : Thread nD τ) none) Set.univ p' Q) -∗ wp frame (wpE (defs₀ (F := F)) 𝒱₀ (c : Thread nD τ) none) Set.univ p Q))
    (h2 : iprop(𝓘 ∗ T1 j c ∗ Ow c (oweR s c)) ⊢ iprop(((Got PP c j ∗ Ow c (oweR s c)) -∗ wp frame (wpE (defs₀ (F := F)) 𝒱₀ (c : Thread nD τ) none) Set.univ p'' Q) -∗ wp frame (wpE (defs₀ (F := F)) 𝒱₀ (c : Thread nD τ) none) Set.univ p' Q)) :
    iprop(𝓘 ∗ (T0 i c ∗ Land i c ∗ sP i c (sbV PP c)) ∗ T1 j c ∗ Ow c (oweR S c))
      ⊢ iprop(((T1 i c ∗ Got PP c j ∗ Ow c (oweR s c)) -∗ wp frame (wpE (defs₀ (F := F)) 𝒱₀ (c : Thread nD τ) none) Set.univ p'' Q) -∗ wp frame (wpE (defs₀ (F := F)) 𝒱₀ (c : Thread nD τ) none) Set.univ p Q) := by
  iintro ⟨#HI, ⟨HT, HL, Hs⟩, H0, HO⟩ Hk
  iapply h1 $$ [HT HL Hs HO]
  · isplitr; · iexact HI
    isplitl [HT]; · iexact HT
    isplitl [HL]; · iexact HL
    isplitl [Hs]; · iexact Hs
    iexact HO
  iintro ⟨HT, HO⟩
  iapply h2 $$ [H0 HO]
  · isplitr; · iexact HI
    isplitl [H0]; · iexact H0
    iexact HO
  iintro ⟨HG, HO⟩
  iapply Hk
  isplitl [HT]; · iexact HT
  isplitl [HG]; · iexact HG
  iexact HO

theorem step9 {R : Type} {Q : R → sProp 𝕄} {κ : Prog (TpuEff nD τ sig (Elt F) Λ₀ .tc) R} :
    iprop(𝓘 ∗ (T0 1 c ∗ Land 1 c ∗ sP 1 c (sbV PP c)) ∗ T1 0 c ∗ Ow c (oweR (insert 1 ({2, 3, 4, 5} : Finset (Fin 6))) c))
      ⊢ iprop(((T1 1 c ∗ Got PP c 0 ∗ Ow c (oweR ({2, 3, 4, 5} : Finset (Fin 6)) c)) -∗ wp frame (wpE (defs₀ (F := F)) 𝒱₀ (c : Thread nD τ) none) Set.univ κ Q)
        -∗ wp frame (wpE (defs₀ (F := F)) 𝒱₀ (c : Thread nD τ) none) Set.univ (s9 sM (Memref.isWhole_whole _) rM (Memref.isWhole_whole _) sS rS c κ) Q) := by
  unfold s9
  simp only [Prog.lift, Prog.bind_op, Prog.bind_ret]
  exact send_wait PP HQ HO K c ({2, 3, 4, 5} : Finset (Fin 6)) (send_piece (sbV PP) (WQ HQ) (WO HO) HQ HO K (c := c) 1 (dev4_eq c) ({2, 3, 4, 5} : Finset (Fin 6)) (by decide) rfl rfl rfl rfl)
    (wait_both PP HQ HO K c (k := fun _ => κ) (s := ({2, 3, 4, 5} : Finset (Fin 6))) 0 (by decide) (wait_of c (sndK 0) (dst := sW0) rfl rfl) (wait_of c (rcvK 0) (dst := rW0) rfl rfl))

theorem step11 {R : Type} {Q : R → sProp 𝕄} {κ : Prog (TpuEff nD τ sig (Elt F) Λ₀ .tc) R} :
    iprop(𝓘 ∗ T0 3 c ∗ Land 3 c ∗ sP 3 c (sbV PP c) ∗ Ow c (oweR (insert 3 ({2, 4, 5} : Finset (Fin 6))) c))
      ⊢ iprop(((T1 3 c ∗ Ow c (oweR ({2, 4, 5} : Finset (Fin 6)) c)) -∗ wp frame (wpE (defs₀ (F := F)) 𝒱₀ (c : Thread nD τ) none) Set.univ κ Q)
        -∗ wp frame (wpE (defs₀ (F := F)) 𝒱₀ (c : Thread nD τ) none) Set.univ (s11 sM (Memref.isWhole_whole _) rM (Memref.isWhole_whole _) sS rS c κ) Q) := by
  unfold s11
  simp only [Prog.lift, Prog.bind_op, Prog.bind_ret]
  exact send_piece (sbV PP) (WQ HQ) (WO HO) HQ HO K (c := c) (k := fun _ => κ) 3 (dev5_eq c) ({2, 4, 5} : Finset (Fin 6)) (by decide) rfl rfl rfl rfl

theorem step14 {R : Type} {Q : R → sProp 𝕄} {κ : Prog (TpuEff nD τ sig (Elt F) Λ₀ .tc) R} :
    iprop(𝓘 ∗ (T0 2 c ∗ Land 2 c ∗ sP 2 c (sbV PP c)) ∗ T1 1 c ∗ Ow c (oweR (insert 2 ({4, 5} : Finset (Fin 6))) c))
      ⊢ iprop(((T1 2 c ∗ Got PP c 1 ∗ Ow c (oweR ({4, 5} : Finset (Fin 6)) c)) -∗ wp frame (wpE (defs₀ (F := F)) 𝒱₀ (c : Thread nD τ) none) Set.univ κ Q)
        -∗ wp frame (wpE (defs₀ (F := F)) 𝒱₀ (c : Thread nD τ) none) Set.univ (s14 sM (Memref.isWhole_whole _) rM (Memref.isWhole_whole _) sS rS c κ) Q) := by
  unfold s14
  simp only [Prog.lift, Prog.bind_op, Prog.bind_ret]
  exact send_wait PP HQ HO K c ({4, 5} : Finset (Fin 6)) (send_piece (sbV PP) (WQ HQ) (WO HO) HQ HO K (c := c) 2 (dev6_eq c) ({4, 5} : Finset (Fin 6)) (by decide) rfl rfl rfl rfl)
    (wait_both PP HQ HO K c (k := fun _ => κ) (s := ({4, 5} : Finset (Fin 6))) 1 (by decide) (wait_of c (sndK 1) (dst := sW1) rfl rfl) (wait_of c (rcvK 1) (dst := rW1) rfl rfl))

theorem step16 {R : Type} {Q : R → sProp 𝕄} {κ : Prog (TpuEff nD τ sig (Elt F) Λ₀ .tc) R} :
    iprop(𝓘 ∗ (T0 4 c ∗ Land 4 c ∗ sP 4 c (sbV PP c)) ∗ T1 3 c ∗ Ow c (oweR (insert 4 ({5} : Finset (Fin 6))) c))
      ⊢ iprop(((T1 4 c ∗ Got PP c 3 ∗ Ow c (oweR ({5} : Finset (Fin 6)) c)) -∗ wp frame (wpE (defs₀ (F := F)) 𝒱₀ (c : Thread nD τ) none) Set.univ κ Q)
        -∗ wp frame (wpE (defs₀ (F := F)) 𝒱₀ (c : Thread nD τ) none) Set.univ (s16 sM (Memref.isWhole_whole _) rM (Memref.isWhole_whole _) sS rS c κ) Q) := by
  unfold s16
  simp only [Prog.lift, Prog.bind_op, Prog.bind_ret]
  exact send_wait PP HQ HO K c ({5} : Finset (Fin 6)) (send_piece (sbV PP) (WQ HQ) (WO HO) HQ HO K (c := c) 4 (dev7_eq c) ({5} : Finset (Fin 6)) (by decide) rfl rfl rfl rfl)
    (wait_both PP HQ HO K c (k := fun _ => κ) (s := ({5} : Finset (Fin 6))) 3 (by decide) (wait_of c (sndK 3) (dst := sW3) rfl rfl) (wait_of c (rcvK 3) (dst := rW3) rfl rfl))

theorem step19 {R : Type} {Q : R → sProp 𝕄} {κ : Prog (TpuEff nD τ sig (Elt F) Λ₀ .tc) R} :
    iprop(𝓘 ∗ T1 2 c ∗ Ow c (oweR ({5} : Finset (Fin 6)) c))
      ⊢ iprop(((Got PP c 2 ∗ Ow c (oweR ({5} : Finset (Fin 6)) c)) -∗ wp frame (wpE (defs₀ (F := F)) 𝒱₀ (c : Thread nD τ) none) Set.univ κ Q)
        -∗ wp frame (wpE (defs₀ (F := F)) 𝒱₀ (c : Thread nD τ) none) Set.univ (s19 sM (Memref.isWhole_whole _) rM (Memref.isWhole_whole _) sS rS κ) Q) := by
  unfold s19
  simp only [Prog.lift, Prog.bind_op, Prog.bind_ret]
  exact wait_both PP HQ HO K c (k := fun _ => κ) 2 (by decide) (wait_of c (sndK 2) (dst := sW2) rfl rfl) (wait_of c (rcvK 2) (dst := rW2) rfl rfl)

theorem step21 {R : Type} {Q : R → sProp 𝕄} {κ : Prog (TpuEff nD τ sig (Elt F) Λ₀ .tc) R} :
    iprop(𝓘 ∗ (T0 5 c ∗ Land 5 c ∗ sP 5 c (sbV PP c)) ∗ T1 4 c ∗ Ow c (oweR (insert 5 (∅ : Finset (Fin 6))) c))
      ⊢ iprop(((T1 5 c ∗ Got PP c 4 ∗ Ow c (oweR (∅ : Finset (Fin 6)) c)) -∗ wp frame (wpE (defs₀ (F := F)) 𝒱₀ (c : Thread nD τ) none) Set.univ κ Q)
        -∗ wp frame (wpE (defs₀ (F := F)) 𝒱₀ (c : Thread nD τ) none) Set.univ (s21 sM (Memref.isWhole_whole _) rM (Memref.isWhole_whole _) sS rS c κ) Q) := by
  unfold s21
  simp only [Prog.lift, Prog.bind_op, Prog.bind_ret]
  exact send_wait PP HQ HO K c (∅ : Finset (Fin 6)) (send_piece (sbV PP) (WQ HQ) (WO HO) HQ HO K (c := c) 5 (dev8_eq c) (∅ : Finset (Fin 6)) (by decide) rfl rfl rfl rfl)
    (wait_both PP HQ HO K c (k := fun _ => κ) (s := (∅ : Finset (Fin 6))) 4 (by decide) (wait_of c (sndK 4) (dst := sW4) rfl rfl) (wait_of c (rcvK 4) (dst := rW4) rfl rfl))

theorem step24 {R : Type} {Q : R → sProp 𝕄} {κ : Prog (TpuEff nD τ sig (Elt F) Λ₀ .tc) R} :
    iprop(𝓘 ∗ T1 5 c ∗ Ow c (oweR (∅ : Finset (Fin 6)) c))
      ⊢ iprop(((Got PP c 5 ∗ Ow c (oweR (∅ : Finset (Fin 6)) c)) -∗ wp frame (wpE (defs₀ (F := F)) 𝒱₀ (c : Thread nD τ) none) Set.univ κ Q)
        -∗ wp frame (wpE (defs₀ (F := F)) 𝒱₀ (c : Thread nD τ) none) Set.univ (s24 sM (Memref.isWhole_whole _) rM (Memref.isWhole_whole _) sS rS κ) Q) := by
  unfold s24
  simp only [Prog.lift, Prog.bind_op, Prog.bind_ret]
  exact wait_both PP HQ HO K c (k := fun _ => κ) 5 (by decide) (wait_of c (sndK 5) (dst := sW5) rfl rfl) (wait_of c (rcvK 5) (dst := rW5) rfl rfl)

theorem step5 (q k v : Vec F S1024x1024 .bf16) (wo : WBuf F) (hP : PP c = part q k v wo) (g : XBuf F) {R : Type} {Q : R → sProp 𝕄} {κ : Prog (TpuEff nD τ sig (Elt F) Λ₀ .tc) R} :
    sP 0 c g ⊢ iprop((sP 0 c (sbV PP c) -∗ wp frame (wpE (defs₀ (F := F)) 𝒱₀ (c : Thread nD τ) none) Set.univ κ Q)
      -∗ wp frame (wpE (defs₀ (F := F)) 𝒱₀ (c : Thread nD τ) none) Set.univ (s5 sM (Memref.isWhole_whole _) wo (ctx0 q k v) κ) Q) := by
  iintro H Hk
  unfold s5
  simp only [Prog.lift, Prog.bind_op, Prog.bind_ret]
  iapply (load_s (c := c) 0 g rfl) $$ H
  iintro H
  iapply (store_s (c := c) 0 g (sbV PP c) rfl (part_0 PP c q k v wo hP)) $$ H
  iexact Hk

theorem step8 (q k v : Vec F S1024x1024 .bf16) (wo : WBuf F) (hP : PP c = part q k v wo) (g : XBuf F) {R : Type} {Q : R → sProp 𝕄} {κ : Prog (TpuEff nD τ sig (Elt F) Λ₀ .tc) R} :
    sP 1 c g ⊢ iprop((sP 1 c (sbV PP c) -∗ wp frame (wpE (defs₀ (F := F)) 𝒱₀ (c : Thread nD τ) none) Set.univ κ Q)
      -∗ wp frame (wpE (defs₀ (F := F)) 𝒱₀ (c : Thread nD τ) none) Set.univ (s8 sM (Memref.isWhole_whole _) wo (ctx1 384 704 (by omega) (by omega) q k v) κ) Q) := by
  iintro H Hk
  unfold s8
  simp only [Prog.lift, Prog.bind_op, Prog.bind_ret]
  iapply (load_s (c := c) 1 g rfl) $$ H
  iintro H
  iapply (store_s (c := c) 1 g (sbV PP c) rfl (part_1 PP c q k v wo hP)) $$ H
  iexact Hk

theorem step13 (q k v : Vec F S1024x1024 .bf16) (wo : WBuf F) (hP : PP c = part q k v wo) (g : XBuf F) {R : Type} {Q : R → sProp 𝕄} {κ : Prog (TpuEff nD τ sig (Elt F) Λ₀ .tc) R} :
    sP 2 c g ⊢ iprop((sP 2 c (sbV PP c) -∗ wp frame (wpE (defs₀ (F := F)) 𝒱₀ (c : Thread nD τ) none) Set.univ κ Q)
      -∗ wp frame (wpE (defs₀ (F := F)) 𝒱₀ (c : Thread nD τ) none) Set.univ (s13 sM (Memref.isWhole_whole _) wo (ctx1 704 384 (by omega) (by omega) q k v) κ) Q) := by
  iintro H Hk
  unfold s13
  simp only [Prog.lift, Prog.bind_op, Prog.bind_ret]
  iapply (load_s (c := c) 2 g rfl) $$ H
  iintro H
  iapply (store_s (c := c) 2 g (sbV PP c) rfl (part_2 PP c q k v wo hP)) $$ H
  iexact Hk

theorem step10 (g : XBuf F) {R : Type} {Q : R → sProp 𝕄} {κ : Prog (TpuEff nD τ sig (Elt F) Λ₀ .tc) R} :
    iprop(sP 0 c (sbV PP c) ∗ rP 0 c (sbV PP (prt 0 c)) ∗ sP 3 c g)
      ⊢ iprop(((sP 0 c (sbV PP c) ∗ rP 0 c (sbV PP (prt 0 c)) ∗ sP 3 c (sbV PP c)) -∗ wp frame (wpE (defs₀ (F := F)) 𝒱₀ (c : Thread nD τ) none) Set.univ κ Q)
      -∗ wp frame (wpE (defs₀ (F := F)) 𝒱₀ (c : Thread nD τ) none) Set.univ (s10 sM (Memref.isWhole_whole _) rM κ) Q) := by
  iintro ⟨Hs, Hr, Ht⟩ Hk
  unfold s10
  simp only [Prog.lift, Prog.bind_op, Prog.bind_ret]
  iapply (load_s (c := c) 0 (sbV PP c) rfl) $$ Hs
  iintro Hs
  iapply (load_r (c := c) 0 (sbV PP (prt 0 c)) rfl) $$ Hr
  iintro Hr
  iapply (load_s (c := c) 3 g rfl) $$ Ht
  iintro Ht
  iapply (store_s (c := c) 3 g (sbV PP c) rfl (sum_0 PP c)) $$ Ht
  iintro Ht
  iapply Hk
  isplitl [Hs]; · iexact Hs
  isplitl [Hr]; · iexact Hr
  iexact Ht

theorem step15 (g : XBuf F) {R : Type} {Q : R → sProp 𝕄} {κ : Prog (TpuEff nD τ sig (Elt F) Λ₀ .tc) R} :
    iprop(sP 1 c (sbV PP c) ∗ rP 1 c (sbV PP (prt 1 c)) ∗ sP 4 c g)
      ⊢ iprop(((sP 1 c (sbV PP c) ∗ rP 1 c (sbV PP (prt 1 c)) ∗ sP 4 c (sbV PP c)) -∗ wp frame (wpE (defs₀ (F := F)) 𝒱₀ (c : Thread nD τ) none) Set.univ κ Q)
      -∗ wp frame (wpE (defs₀ (F := F)) 𝒱₀ (c : Thread nD τ) none) Set.univ (s15 sM (Memref.isWhole_whole _) rM κ) Q) := by
  iintro ⟨Hs, Hr, Ht⟩ Hk
  unfold s15
  simp only [Prog.lift, Prog.bind_op, Prog.bind_ret]
  iapply (load_s (c := c) 1 (sbV PP c) rfl) $$ Hs
  iintro Hs
  iapply (load_r (c := c) 1 (sbV PP (prt 1 c)) rfl) $$ Hr
  iintro Hr
  iapply (load_s (c := c) 4 g rfl) $$ Ht
  iintro Ht
  iapply (store_s (c := c) 4 g (sbV PP c) rfl (sum_1 PP c)) $$ Ht
  iintro Ht
  iapply Hk
  isplitl [Hs]; · iexact Hs
  isplitl [Hr]; · iexact Hr
  iexact Ht

theorem step20 (g : XBuf F) {R : Type} {Q : R → sProp 𝕄} {κ : Prog (TpuEff nD τ sig (Elt F) Λ₀ .tc) R} :
    iprop(sP 2 c (sbV PP c) ∗ rP 2 c (sbV PP (prt 2 c)) ∗ sP 5 c g)
      ⊢ iprop(((sP 2 c (sbV PP c) ∗ rP 2 c (sbV PP (prt 2 c)) ∗ sP 5 c (sbV PP c)) -∗ wp frame (wpE (defs₀ (F := F)) 𝒱₀ (c : Thread nD τ) none) Set.univ κ Q)
      -∗ wp frame (wpE (defs₀ (F := F)) 𝒱₀ (c : Thread nD τ) none) Set.univ (s20 sM (Memref.isWhole_whole _) rM κ) Q) := by
  iintro ⟨Hs, Hr, Ht⟩ Hk
  unfold s20
  simp only [Prog.lift, Prog.bind_op, Prog.bind_ret]
  iapply (load_s (c := c) 2 (sbV PP c) rfl) $$ Hs
  iintro Hs
  iapply (load_r (c := c) 2 (sbV PP (prt 2 c)) rfl) $$ Hr
  iintro Hr
  iapply (load_s (c := c) 5 g rfl) $$ Ht
  iintro Ht
  iapply (store_s (c := c) 5 g (sbV PP c) rfl (sum_2 PP c)) $$ Ht
  iintro Ht
  iapply Hk
  isplitl [Hs]; · iexact Hs
  isplitl [Hr]; · iexact Hr
  iexact Ht

theorem step17 {R : Type} {Q : R → sProp 𝕄} {κ : (_ : _) → (_ : _) → Prog (TpuEff nD τ sig (Elt F) Λ₀ .tc) R} :
    iprop(sP 3 c (sbV PP c) ∗ rP 3 c (sbV PP (prt 3 c)))
      ⊢ iprop(((sP 3 c (sbV PP c) ∗ rP 3 c (sbV PP (prt 3 c))) -∗ wp frame (wpE (defs₀ (F := F)) 𝒱₀ (c : Thread nD τ) none) Set.univ (κ (pc PP 3 c) (pc PP 3 (prt 3 c))) Q)
      -∗ wp frame (wpE (defs₀ (F := F)) 𝒱₀ (c : Thread nD τ) none) Set.univ (s17 sM rM κ) Q) := by
  iintro ⟨Hs, Hr⟩ Hk
  unfold s17
  simp only [Prog.lift, Prog.bind_op, Prog.bind_ret]
  iapply (load_s (c := c) 3 (sbV PP c) rfl) $$ Hs
  iintro Hs
  iapply (load_r (c := c) 3 (sbV PP (prt 3 c)) rfl) $$ Hr
  iintro Hr
  iapply Hk
  isplitl [Hs]; · iexact Hs
  iexact Hr

theorem step22 {R : Type} {Q : R → sProp 𝕄} {κ : (_ : _) → (_ : _) → Prog (TpuEff nD τ sig (Elt F) Λ₀ .tc) R} :
    iprop(sP 4 c (sbV PP c) ∗ rP 4 c (sbV PP (prt 4 c)))
      ⊢ iprop(((sP 4 c (sbV PP c) ∗ rP 4 c (sbV PP (prt 4 c))) -∗ wp frame (wpE (defs₀ (F := F)) 𝒱₀ (c : Thread nD τ) none) Set.univ (κ (pc PP 4 c) (pc PP 4 (prt 4 c))) Q)
      -∗ wp frame (wpE (defs₀ (F := F)) 𝒱₀ (c : Thread nD τ) none) Set.univ (s22 sM rM κ) Q) := by
  iintro ⟨Hs, Hr⟩ Hk
  unfold s22
  simp only [Prog.lift, Prog.bind_op, Prog.bind_ret]
  iapply (load_s (c := c) 4 (sbV PP c) rfl) $$ Hs
  iintro Hs
  iapply (load_r (c := c) 4 (sbV PP (prt 4 c)) rfl) $$ Hr
  iintro Hr
  iapply Hk
  isplitl [Hs]; · iexact Hs
  iexact Hr

theorem step25 {R : Type} {Q : R → sProp 𝕄} {κ : (_ : _) → (_ : _) → Prog (TpuEff nD τ sig (Elt F) Λ₀ .tc) R} :
    iprop(sP 5 c (sbV PP c) ∗ rP 5 c (sbV PP (prt 5 c)))
      ⊢ iprop(((sP 5 c (sbV PP c) ∗ rP 5 c (sbV PP (prt 5 c))) -∗ wp frame (wpE (defs₀ (F := F)) 𝒱₀ (c : Thread nD τ) none) Set.univ (κ (pc PP 5 c) (pc PP 5 (prt 5 c))) Q)
      -∗ wp frame (wpE (defs₀ (F := F)) 𝒱₀ (c : Thread nD τ) none) Set.univ (s25 sM rM κ) Q) := by
  iintro ⟨Hs, Hr⟩ Hk
  unfold s25
  simp only [Prog.lift, Prog.bind_op, Prog.bind_ret]
  iapply (load_s (c := c) 5 (sbV PP c) rfl) $$ Hs
  iintro Hs
  iapply (load_r (c := c) 5 (sbV PP (prt 5 c)) rfl) $$ Hr
  iintro Hr
  iapply Hk
  isplitl [Hs]; · iexact Hs
  iexact Hr

end Cert.KernelIdeal.Run

end
-- ==== Proof.RunBody.lean ====
/- The whole run of one device through the stretches of the body. -/
module

public import proofs.«01_k».proof.Proof.RunSteps

@[expose] public section

set_option maxRecDepth 65536
set_option maxHeartbeats 1000000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

theorem bigSep_fin6 {M : Type} [URA M] (Φ : Fin 6 → sProp M) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-! The order in which the pieces are owed. -/

theorem owe_set1 (c : Dev nD) : oweR Finset.univ c = oweR (insert 0 ({1, 2, 3, 4, 5} : Finset (Fin 6))) c := congrArg (fun s => oweR s c) (by decide)
theorem owe_set2 (c : Dev nD) : oweR ({2, 3, 4, 5} : Finset (Fin 6)) c = oweR (insert 3 ({2, 4, 5} : Finset (Fin 6))) c := congrArg (fun s => oweR s c) (by decide)
theorem owe_set3 (c : Dev nD) : oweR ({5} : Finset (Fin 6)) c = oweR (insert 5 (∅ : Finset (Fin 6))) c := congrArg (fun s => oweR s c) (by decide)

variable (PP : Dev nD → Vec F S1024x1024 .bf16)
  (HQ : (c : Dev nD) → Buf (Elt F) ((c : Thread nD τ).loc main_arg1)) (HO : (c : Dev nD) → Buf (Elt F) ((c : Thread nD τ).loc main_arg4))
  (K : GSem nD τ sig → ℕ) (c : Dev nD)

/-- What a device holds when its body is through. -/
def Done (fx fk fv : Vec F S1024x1024 .f32) : sProp 𝕄 :=
  iprop((bigSep Finset.univ fun i : Fin 6 => T3 i c) ∗ (bigSep Finset.univ fun i : Fin 6 => sP i c (sbV PP c))
    ∗ (bigSep Finset.univ fun i : Fin 6 => rP i c (sbV PP (prt i c)))
    ∗ atPos ER (oCell (cpK 0) c) (0 + 1) ∅ 0 ∗ atPos ER (oCell (cpK 1) c) (0 + 1) ∅ 0 ∗ atPos ER (barCell c) (0 + 1) ∅ 0
    ∗ srcQ HQ c ∗ srcO HO c ∗ (wqM.view.loc (c : Thread nD τ) ↦{fullShare} WQ HQ c) ∗ (woM.view.loc (c : Thread nD τ) ↦{fullShare} WO HO c)
    ∗ (∃ f : Vec F S384x1024 .bf16, cM.view.loc (c : Thread nD τ) ↦{fullShare} f)
    ∗ (xM.view.loc (c : Thread nD τ) ↦{fullShare} permuted fx) ∗ (kM.view.loc (c : Thread nD τ) ↦{fullShare} permuted fk) ∗ (vM.view.loc (c : Thread nD τ) ↦{fullShare} permuted fv)
    ∗ (xS.view.loc (c : Thread nD τ) ↦{fullShare} fx) ∗ (kS.view.loc (c : Thread nD τ) ↦{fullShare} fk) ∗ (vS.view.loc (c : Thread nD τ) ↦{fullShare} fv) ∗ (oS.view.loc (c : Thread nD τ) ↦{fullShare} outV PP c) ∗ Ow c (oweR (∅ : Finset (Fin 6)) c))

theorem body_run (fx fk fv fo : Vec F S1024x1024 .f32) (hP : PP c = part (qV (permuted fx) (WQ HQ c)) (permuted fk) (permuted fv) (WO HO c))
    (gs : XBuf F) (gc : Vec F S384x1024 .bf16) (gx gk gv : Vec F S1024x1024 .bf16) (g12 g13 : WBuf F) {Q : PUnit → sProp 𝕄} :
    iprop(Inv (sbV PP) (WQ HQ) (WO HO) HQ HO K c ∗ C0 0 c ∗ C0 1 c ∗ srcQ HQ c ∗ srcO HO c ∗ (wqM.view.loc (c : Thread nD τ) ↦{fullShare} g12) ∗ (woM.view.loc (c : Thread nD τ) ↦{fullShare} g13)
        ∗ B0 c ∗ (bigSep Finset.univ fun i : Fin 6 => iprop(∃ f, rP i c f)) ∗ Ow c (O₀ c)
        ∗ (bigSep Finset.univ fun i : Fin 6 => T0 i c) ∗ (bigSep Finset.univ fun i : Fin 6 => sP i c gs)
        ∗ (cM.view.loc (c : Thread nD τ) ↦{fullShare} gc) ∗ (xM.view.loc (c : Thread nD τ) ↦{fullShare} gx) ∗ (kM.view.loc (c : Thread nD τ) ↦{fullShare} gk) ∗ (vM.view.loc (c : Thread nD τ) ↦{fullShare} gv)
        ∗ (xS.view.loc (c : Thread nD τ) ↦{fullShare} fx) ∗ (kS.view.loc (c : Thread nD τ) ↦{fullShare} fk) ∗ (vS.view.loc (c : Thread nD τ) ↦{fullShare} fv) ∗ (oS.view.loc (c : Thread nD τ) ↦{fullShare} fo))
      ⊢ iprop((Done PP HQ HO c fx fk fv -∗ wp frame (wpE (defs₀ (F := F)) 𝒱₀ (c : Thread nD τ) none) Set.univ (pure ⟨⟩) Q)
        -∗ wp frame (wpE (defs₀ (F := F)) 𝒱₀ (c : Thread nD τ) none) Set.univ (cc0_body xS (Memref.isWhole_whole _) w1 (Memref.isWhole_whole _) kS (Memref.isWhole_whole _) vS (Memref.isWhole_whole _) w4 (Memref.isWhole_whole _)
            oS (Memref.isWhole_whole _) cM (Memref.isWhole_whole _) xM (Memref.isWhole_whole _) kM (Memref.isWhole_whole _) vM (Memref.isWhole_whole _)
            sM (Memref.isWhole_whole _) rM (Memref.isWhole_whole _) wqM (Memref.isWhole_whole _) woM (Memref.isWhole_whole _) cS sS rS) Q) := by
  rw [bigSep_fin6 fun i : Fin 6 => T0 (F := F) i c, bigSep_fin6 fun i : Fin 6 => sP i c gs]
  iintro ⟨#HI, Hc0, Hc1, Hq, Ho, Hwq, Hwo, HB, Hr, HO, HT, Hs, Hcx, Hxb, Hkb, Hvb, Hx, Hk, Hv, Hout⟩ Hκ
  icases HT with ⟨HT0, HT1, HT2, HT3, HT4, HT5⟩
  icases Hs with ⟨Hs0, Hs1, Hs2, Hs3, Hs4, Hs5⟩
  rw [body.eq]
  rw [s1.eq]
  iapply (step1 PP HQ HO K c g12 g13) $$ [Hc0 Hc1 Hq Ho Hwq Hwo HB Hr HO]
  · isplitr; · iexact HI
    isplitl [Hc0]; · iexact Hc0
    isplitl [Hc1]; · iexact Hc1
    isplitl [Hq]; · iexact Hq
    isplitl [Ho]; · iexact Ho
    isplitl [Hwq]; · iexact Hwq
    isplitl [Hwo]; · iexact Hwo
    isplitl [HB]; · iexact HB
    isplitl [Hr]; · iexact Hr
    iexact HO
  iintro ⟨Hc0, Hc1, HaB, HL, HO⟩
  rw [s2.eq]
  iapply (copy_blocks c fx fk fv gx gk gv) $$ [Hx Hk Hv Hxb Hkb Hvb]
  · isplitl [Hx]; · iexact Hx
    isplitl [Hk]; · iexact Hk
    isplitl [Hv]; · iexact Hv
    isplitl [Hxb]; · iexact Hxb
    isplitl [Hkb]; · iexact Hkb
    iexact Hvb
  iintro ⟨Hx, Hk, Hv, Hxb, Hkb, Hvb⟩
  rw [s3.eq]
  iapply (step3 PP HQ HO K c (permuted fx)) $$ [Hc0 Hc1 Hxb HO]
  · isplitr; · iexact HI
    isplitl [Hc0]; · iexact Hc0
    isplitl [Hc1]; · iexact Hc1
    isplitl [Hxb]; · iexact Hxb
    iexact HO
  iintro ⟨Hc0, Hc1, Hq, Ho, Hwq, Hwo, Hxb, HO⟩
  rw [s4.eq]
  iapply (heads0 c (permuted fx) (permuted fk) (permuted fv) gc (WQ HQ c) (WO HO c)) $$ [Hkb Hvb Hcx Hwo]
  · isplitl [Hkb]; · iexact Hkb
    isplitl [Hvb]; · iexact Hvb
    isplitl [Hcx]; · iexact Hcx
    iexact Hwo
  iintro ⟨Hkb, Hvb, Hcx, Hwo⟩
  ihave HL := (Entails.of_eq (bigSep_fin6 fun i : Fin 6 => Land (F := F) i c)) $$ HL
  icases HL with ⟨HL0, HL1, HL2, HL3, HL4, HL5⟩
  rw [s5.eq]
  iapply (step5 PP c (qV (permuted fx) (WQ HQ c)) (permuted fk) (permuted fv) (WO HO c) hP gs) $$ Hs0
  iintro Hs0
  ihave HO := (Entails.of_eq (congrArg (Ow (F := F) c) (owe_set1 c))) $$ HO
  rw [s6.eq]
  iapply (step6 PP HQ HO K c) $$ [HT0 HL0 Hs0 HO]
  · isplitr; · iexact HI
    isplitl [HT0]; · iexact HT0
    isplitl [HL0]; · iexact HL0
    isplitl [Hs0]; · iexact Hs0
    iexact HO
  iintro ⟨HT0, HO⟩
  rw [s7.eq]
  iapply (heads1 c (permuted fx) (permuted fk) (permuted fv) _ (WQ HQ c)) $$ [Hkb Hvb Hcx]
  · isplitl [Hkb]; · iexact Hkb
    isplitl [Hvb]; · iexact Hvb
    iexact Hcx
  iintro ⟨Hkb, Hvb, ⟨%gc, Hcx⟩⟩
  rw [s8.eq]
  iapply (step8 PP c (qV (permuted fx) (WQ HQ c)) (permuted fk) (permuted fv) (WO HO c) hP gs) $$ Hs1
  iintro Hs1
  rw [s9.eq]
  iapply (step9 PP HQ HO K c) $$ [HT1 HL1 Hs1 HT0 HO]
  · isplitr; · iexact HI
    isplitl [HT1 HL1 Hs1]
    · isplitl [HT1]; · iexact HT1
      isplitl [HL1]; · iexact HL1
      iexact Hs1
    isplitl [HT0]; · iexact HT0
    iexact HO
  iintro ⟨HT1, HG, HO⟩
  unfold Got
  icases HG with ⟨HT0, Hs0, Hr0⟩
  rw [s10.eq]
  iapply (step10 PP c gs) $$ [Hs0 Hr0 Hs3]
  · isplitl [Hs0]; · iexact Hs0
    isplitl [Hr0]; · iexact Hr0
    iexact Hs3
  iintro ⟨Hs0, Hr0, Hs3⟩
  ihave HO := (Entails.of_eq (congrArg (Ow (F := F) c) (owe_set2 c))) $$ HO
  rw [s11.eq]
  iapply (step11 PP HQ HO K c) $$ [HT3 HL3 Hs3 HO]
  · isplitr; · iexact HI
    isplitl [HT3]; · iexact HT3
    isplitl [HL3]; · iexact HL3
    isplitl [Hs3]; · iexact Hs3
    iexact HO
  iintro ⟨HT3, HO⟩
  rw [s12.eq]
  iapply (heads2 c (permuted fx) (permuted fk) (permuted fv) _ (WQ HQ c)) $$ [Hkb Hvb Hcx]
  · isplitl [Hkb]; · iexact Hkb
    isplitl [Hvb]; · iexact Hvb
    iexact Hcx
  iintro ⟨Hkb, Hvb, ⟨%gc, Hcx⟩⟩
  rw [s13.eq]
  iapply (step13 PP c (qV (permuted fx) (WQ HQ c)) (permuted fk) (permuted fv) (WO HO c) hP gs) $$ Hs2
  iintro Hs2
  rw [s14.eq]
  iapply (step14 PP HQ HO K c) $$ [HT2 HL2 Hs2 HT1 HO]
  · isplitr; · iexact HI
    isplitl [HT2 HL2 Hs2]
    · isplitl [HT2]; · iexact HT2
      isplitl [HL2]; · iexact HL2
      iexact Hs2
    isplitl [HT1]; · iexact HT1
    iexact HO
  iintro ⟨HT2, HG, HO⟩
  unfold Got
  icases HG with ⟨HT1, Hs1, Hr1⟩
  rw [s15.eq]
  iapply (step15 PP c gs) $$ [Hs1 Hr1 Hs4]
  · isplitl [Hs1]; · iexact Hs1
    isplitl [Hr1]; · iexact Hr1
    iexact Hs4
  iintro ⟨Hs1, Hr1, Hs4⟩
  rw [s16.eq]
  iapply (step16 PP HQ HO K c) $$ [HT4 HL4 Hs4 HT3 HO]
  · isplitr; · iexact HI
    isplitl [HT4 HL4 Hs4]
    · isplitl [HT4]; · iexact HT4
      isplitl [HL4]; · iexact HL4
      iexact Hs4
    isplitl [HT3]; · iexact HT3
    iexact HO
  iintro ⟨HT4, HG, HO⟩
  unfold Got
  icases HG with ⟨HT3, Hs3, Hr3⟩
  rw [s17.eq]
  iapply (step17 PP c) $$ [Hs3 Hr3]
  · isplitl [Hs3]; · iexact Hs3
    iexact Hr3
  iintro ⟨Hs3, Hr3⟩
  rw [s18.eq]
  iapply (out0 c _ (pc PP 3 c) (pc PP 3 (prt 3 c))) $$ Hout
  iintro Hout
  rw [s19.eq]
  iapply (step19 PP HQ HO K c) $$ [HT2 HO]
  · isplitr; · iexact HI
    isplitl [HT2]; · iexact HT2
    iexact HO
  iintro ⟨HG, HO⟩
  unfold Got
  icases HG with ⟨HT2, Hs2, Hr2⟩
  rw [s20.eq]
  iapply (step20 PP c gs) $$ [Hs2 Hr2 Hs5]
  · isplitl [Hs2]; · iexact Hs2
    isplitl [Hr2]; · iexact Hr2
    iexact Hs5
  iintro ⟨Hs2, Hr2, Hs5⟩
  ihave HO := (Entails.of_eq (congrArg (Ow (F := F) c) (owe_set3 c))) $$ HO
  rw [s21.eq]
  iapply (step21 PP HQ HO K c) $$ [HT5 HL5 Hs5 HT4 HO]
  · isplitr; · iexact HI
    isplitl [HT5 HL5 Hs5]
    · isplitl [HT5]; · iexact HT5
      isplitl [HL5]; · iexact HL5
      iexact Hs5
    isplitl [HT4]; · iexact HT4
    iexact HO
  iintro ⟨HT5, HG, HO⟩
  unfold Got
  icases HG with ⟨HT4, Hs4, Hr4⟩
  rw [s22.eq]
  iapply (step22 PP c) $$ [Hs4 Hr4]
  · isplitl [Hs4]; · iexact Hs4
    iexact Hr4
  iintro ⟨Hs4, Hr4⟩
  rw [s23.eq]
  iapply (out1 c _ (pc PP 4 c) (pc PP 4 (prt 4 c))) $$ Hout
  iintro Hout
  rw [s24.eq]
  iapply (step24 PP HQ HO K c) $$ [HT5 HO]
  · isplitr; · iexact HI
    isplitl [HT5]; · iexact HT5
    iexact HO
  iintro ⟨HG, HO⟩
  unfold Got
  icases HG with ⟨HT5, Hs5, Hr5⟩
  rw [s25.eq]
  iapply (step25 PP c) $$ [Hs5 Hr5]
  · isplitl [Hs5]; · iexact Hs5
    iexact Hr5
  iintro ⟨Hs5, Hr5⟩
  rw [s26.eq]
  iapply (out2 c _ (pc PP 5 c) (pc PP 5 (prt 5 c))) $$ Hout
  iintro Hout
  rw [outAll_eq PP c fo]
  rw [show (s26.tail : Prog (TpuEff nD τ sig (Elt F) Λ₀ .tc) PUnit) = pure ⟨⟩ from rfl]
  iapply Hκ
  unfold Done
  isplitl [HT0 HT1 HT2 HT3 HT4 HT5]
  · rw [bigSep_fin6]
    isplitl [HT0]; · iexact HT0
    isplitl [HT1]; · iexact HT1
    isplitl [HT2]; · iexact HT2
    isplitl [HT3]; · iexact HT3
    isplitl [HT4]; · iexact HT4
    iexact HT5
  isplitl [Hs0 Hs1 Hs2 Hs3 Hs4 Hs5]
  · rw [bigSep_fin6]
    isplitl [Hs0]; · iexact Hs0
    isplitl [Hs1]; · iexact Hs1
    isplitl [Hs2]; · iexact Hs2
    isplitl [Hs3]; · iexact Hs3
    isplitl [Hs4]; · iexact Hs4
    iexact Hs5
  isplitl [Hr0 Hr1 Hr2 Hr3 Hr4 Hr5]
  · rw [bigSep_fin6]
    isplitl [Hr0]; · iexact Hr0
    isplitl [Hr1]; · iexact Hr1
    isplitl [Hr2]; · iexact Hr2
    isplitl [Hr3]; · iexact Hr3
    isplitl [Hr4]; · iexact Hr4
    iexact Hr5
  isplitl [Hc0]; · iexact Hc0
  isplitl [Hc1]; · iexact Hc1
  isplitl [HaB]; · iexact HaB
  isplitl [Hq]; · iexact Hq
  isplitl [Ho]; · iexact Ho
  isplitl [Hwq]; · iexact Hwq
  isplitl [Hwo]; · iexact Hwo
  isplitl [Hcx]; · iexists _; iexact Hcx
  isplitl [Hxb]; · iexact Hxb
  isplitl [Hkb]; · iexact Hkb
  isplitl [Hvb]; · iexact Hvb
  isplitl [Hx]; · iexact Hx
  isplitl [Hk]; · iexact Hk
  isplitl [Hv]; · iexact Hv
  isplitl [Hout]; · iexact Hout
  iexact HO

end Cert.KernelIdeal.Run

end
-- ==== Proof.Region.lean ====
/- The one region of the program: what a device holds when it enters and when it leaves, and the pipeline's obligation on its body. -/
module

public import proofs.«01_k».proof.Proof.RunBody
public import proofs.«01_k».proof.Proof.Gen.KernelIdeal.Frame
public import Idealize.ShloMosaic.Lib.Pipeline.RegionTalk

@[expose] public section

set_option maxRecDepth 65536
set_option maxHeartbeats 1000000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

/-! ## The exchange buffers as six pieces -/

def lo : Fin 3 → ℕ := ![0, 384, 704]
def hi : Fin 3 → ℕ := ![384, 704, 1024]
/-- An element is in piece `i` when its phase is `i / 3` and its row lies in row group `i % 3`. -/
theorem mem_piece (i : Fin 6) (y : S2x1024x1024.Idx) : y ∈ (pRect i).set
    ↔ (y 0).val = i.val / 3 ∧ lo ⟨i.val % 3, by omega⟩ ≤ (y 1).val ∧ (y 1).val < hi ⟨i.val % 3, by omega⟩ := by
  have h0 : (y 0).val < 2 := (y 0).isLt
  have h1 : (y 1).val < 1024 := (y 1).isLt
  have h2 : (y 2).val < 1024 := (y 2).isLt
  fin_cases i <;>
  · refine Rect.mem_set_unit.trans ?_
    rw [Fin.forall_fin_succ, Fin.forall_fin_succ, Fin.forall_fin_succ]
    simp [lo, hi]
    omega
theorem s_set (i : Fin 6) : sSet i = (pRect i).set := View.set_slice_whole _ _
theorem r_set (i : Fin 6) : rSet i = (pRect i).set := View.set_slice_whole _ _

theorem lo_hi (a b : Fin 3) (n : ℕ) (h1 : lo a ≤ n) (h2 : n < hi a) (h3 : lo b ≤ n) (h4 : n < hi b) : a = b := by
  fin_cases a <;> fin_cases b <;> simp_all [lo, hi] <;> omega

theorem p_disj (i j : Fin 6) (h : i ≠ j) : Disjoint (pRect i).set (pRect j).set := by
  rw [Finset.disjoint_left]
  intro y hi hj
  obtain ⟨a0, a1, a2⟩ := (mem_piece i y).mp hi
  obtain ⟨b0, b1, b2⟩ := (mem_piece j y).mp hj
  have := congrArg Fin.val (lo_hi _ _ _ a1 a2 b1 b2)
  simp only at this
  exact h (Fin.ext (by omega))
theorem p_cover : (Finset.univ.biUnion fun i : Fin 6 => (pRect i).set) = Finset.univ := by
  refine Finset.eq_univ_iff_forall.mpr fun y => Finset.mem_biUnion.mpr ?_
  have h0 : (y 0).val < 2 := (y 0).isLt
  have h1 : (y 1).val < 1024 := (y 1).isLt
  have : ∃ a : Fin 3, lo a ≤ (y 1).val ∧ (y 1).val < hi a := by
    by_cases h : (y 1).val < 384
    · exact ⟨0, Nat.zero_le _, h⟩
    by_cases h' : (y 1).val < 704
    · exact ⟨1, by simp [lo]; omega, by simpa [hi] using h'⟩
    · exact ⟨2, by simp [lo]; omega, by simpa [hi] using h1⟩
  obtain ⟨a, ha⟩ := this
  refine ⟨⟨3 * (y 0).val + a.val, by omega⟩, Finset.mem_univ _, (mem_piece _ y).mpr ⟨by simp only; omega, ?_⟩⟩
  have : (⟨(3 * (y 0).val + a.val) % 3, by omega⟩ : Fin 3) = a := Fin.ext (by simp only; omega)
  rw [this]; exact ha

theorem s_split (c : Dev nD) (f : XBuf F) : ((((c : Thread nD τ).loc cc0_scratch4) ↦{fullShare} f) : sProp 𝕄) ⊢ bigSep Finset.univ fun i : Fin 6 => sP i c f := by
  unfold sP
  simp only [s_set]
  exact Entails.of_eq (Ring.pointsTo_blocks (ℓ := (c : Thread nD τ).loc cc0_scratch4) (fun i => (pRect i).set) p_disj p_cover f)
theorem r_any (i : Fin 6) (c : Dev nD) (f : XBuf F) : (rP i c f : sProp 𝕄) ⊢ iprop(∃ f, rP i c f) := by
  iintro H; iexists f; iexact H
theorem r_split (c : Dev nD) (f : XBuf F) : ((((c : Thread nD τ).loc cc0_scratch5) ↦{fullShare} f) : sProp 𝕄) ⊢ bigSep Finset.univ fun i : Fin 6 => iprop(∃ f, rP i c f) := by
  refine BIBase.Entails.trans ?_ (bigSep_mono fun i _ => r_any i c f)
  unfold rP
  simp only [r_set]
  exact Entails.of_eq (Ring.pointsTo_blocks (ℓ := (c : Thread nD τ).loc cc0_scratch5) (fun i => (pRect i).set) p_disj p_cover f)
theorem s_join (c : Dev nD) (f : XBuf F) : (bigSep Finset.univ fun i : Fin 6 => sP i c f) ⊢ (iprop(∃ g : XBuf F, (((c : Thread nD τ).loc cc0_scratch4) ↦{fullShare} g)) : sProp 𝕄) := by
  unfold sP
  simp only [s_set]
  refine (Entails.of_eq (Ring.pointsTo_blocks (ℓ := (c : Thread nD τ).loc cc0_scratch4) (fun i => (pRect i).set) p_disj p_cover f).symm).trans ?_
  iintro H; iexists f; iexact H
theorem r_join (c : Dev nD) (fs : Fin 6 → XBuf F) : (bigSep Finset.univ fun i : Fin 6 => rP i c (fs i)) ⊢ (iprop(∃ g : XBuf F, (((c : Thread nD τ).loc cc0_scratch5) ↦{fullShare} g)) : sProp 𝕄) := by
  unfold rP
  simp only [r_set]
  exact Ring.pointsTo_blocks_join (ℓ := (c : Thread nD τ).loc cc0_scratch5) (fun i => (pRect i).set) p_disj p_cover fs (fs 0)

variable (W : Dev nD → Valuation τ sig (Elt F))

/-- The contents at entry of a window's array, as its one block. -/
def inB (c : Dev nD) (w : Fin cfg0.W) : ((cfg0.win w).xblock (cfg0.grid.coords t0_0)).Idx → Elt F (cfg0.win w).elt :=
  ((cfg0.win w).blk t0_0).view.read (Elt F) (W c (Proc.devRef .tc (Pipeline.arrRef spec0 w)))
abbrev xIn (c : Dev nD) : Vec F S1024x1024 .f32 := inB W c 0
abbrev kIn (c : Dev nD) : Vec F S1024x1024 .f32 := inB W c 1
abbrev vIn (c : Dev nD) : Vec F S1024x1024 .f32 := inB W c 2
def hq (c : Dev nD) : Buf (Elt F) ((c : Thread nD τ).loc main_arg1) := W c (Proc.devRef .tc main_arg1)
def ho (c : Dev nD) : Buf (Elt F) ((c : Thread nD τ).loc main_arg4) := W c (Proc.devRef .tc main_arg4)

/-- What device `c` contributes to the group's sum. -/
def PW (c : Dev nD) : Vec F S1024x1024 .bf16 :=
  part (qV (permuted (xIn W c)) (WQ (hq W) c)) (permuted (kIn W c)) (permuted (vIn W c)) (WO (ho W) c)
/-- What the region leaves in the result's array. -/
def outW (c : Dev nD) : Vec F S1024x1024 .f32 := outV (PW W) c

/-- The scratch buffers, each at contents not chosen. -/
def scr (c : Dev nD) : sProp 𝕄 := Pipeline.scopedRest spec0 c
/-- The weights' arrays. -/
def hbm (c : Dev nD) : sProp 𝕄 :=
  iprop((((c : Thread nD τ).loc main_arg1) ↦{fullShare} hq W c) ∗ (((c : Thread nD τ).loc main_arg4) ↦{fullShare} ho W c))
/-- What the protocol gives a device for its body. -/
def Xk (c : Dev nD) : sProp 𝕄 :=
  iprop((∃ K, Inv (sbV (PW W)) (WQ (hq W)) (WO (ho W)) (hq W) (ho W) K c) ∗ B0 c ∗ C0 0 c ∗ C0 1 c ∗ bigSep Finset.univ fun i : Fin 6 => T0 i c)
def Φ₀ (c : Dev nD) : sProp 𝕄 := iprop(scr c ∗ (∃ r, prngReg c r) ∗ hbm W c ∗ Xk W c)
def Φ₁ (c : Dev nD) : sProp 𝕄 := iprop(scr c ∗ (∃ r, prngReg c r) ∗ hbm W c ∗ Pipeline.ownSems0 osem c ∗ semVal (barCell c) 0)

def dat (c : Dev nD) : Dat τ (Elt F) Unit ℕ UU ℕ cfg0 c where
  A w := W c (Proc.devRef .tc (Pipeline.arrRef spec0 w))
  after w _ := match w with
    | ⟨0, _⟩ => xIn W c
    | ⟨1, _⟩ => kIn W c
    | ⟨2, _⟩ => vIn W c
    | ⟨3, _⟩ => outW W c
  Φ t := if t.val = 0 then Φ₀ W c else Φ₁ W c
  q _ := fullShare
  owed t := if t.val = 0 then O₀ c else 0

theorem dat_owed0 (c : Dev nD) : (dat W c).owed t0_0.castSucc = O₀ c := by
  show (if (t0_0.castSucc : Fin (cfg0.N + 1)).val = 0 then O₀ c else 0) = O₀ c; exact if_pos rfl
theorem dat_owed1 (c : Dev nD) : (dat W c).owed t0_0.succ = 0 := by
  show (if (t0_0.succ : Fin (cfg0.N + 1)).val = 0 then O₀ c else 0) = 0; exact if_neg (by simp)
theorem dat_Φ0 (c : Dev nD) : (dat W c).Φ t0_0.castSucc = Φ₀ W c := by
  show (if (t0_0.castSucc : Fin (cfg0.N + 1)).val = 0 then Φ₀ W c else Φ₁ W c) = Φ₀ W c; exact if_pos rfl
theorem dat_Φ1 (c : Dev nD) : (dat W c).Φ t0_0.succ = Φ₁ W c := by
  show (if (t0_0.succ : Fin (cfg0.N + 1)).val = 0 then Φ₀ W c else Φ₁ W c) = Φ₁ W c; exact if_neg (by simp)

theorem owesAt_intro {c : Dev nD} (t : Fin (cfg0.N + 1)) (O : CellTallies nD τ sig Unit) (h0 : (dat W c).owed t = O) :
    (Ow c O : sProp 𝕄) ⊢ (dat W c).owesAt () t := by
  unfold Dat.owesAt Pipeline.owesWithin Dat.bound Ow; rw [h0]
  iintro ⟨%V, HO⟩; iexists V; isplitr; · ipureintro; exact fun _ _ => Or.inl trivial
  iexact HO
theorem owesAt_elim {c : Dev nD} (t : Fin (cfg0.N + 1)) (O : CellTallies nD τ sig Unit) (h0 : (dat W c).owed t = O) :
    (dat W c).owesAt () t ⊢ (Ow c O : sProp 𝕄) := by
  unfold Dat.owesAt Pipeline.owesWithin Ow; rw [h0]
  iintro ⟨%V, -, HO⟩; iexists V; iexact HO

theorem before_0 (c : Dev nD) (d) : (dat W c).before 0 t0_0 d = xIn W c :=
  ((dat W c).before_in_eq_fetched 0 rfl (fun _ => rfl) (fun _ _ _ => rfl) (fun t => by rw [fin_N0 t]; rfl) t0_0 d).trans rfl
theorem before_1 (c : Dev nD) (d) : (dat W c).before 1 t0_0 d = kIn W c :=
  ((dat W c).before_in_eq_fetched 1 rfl (fun _ => rfl) (fun _ _ _ => rfl) (fun t => by rw [fin_N0 t]; rfl) t0_0 d).trans rfl
theorem before_2 (c : Dev nD) (d) : (dat W c).before 2 t0_0 d = vIn W c :=
  ((dat W c).before_in_eq_fetched 2 rfl (fun _ => rfl) (fun _ _ _ => rfl) (fun t => by rw [fin_N0 t]; rfl) t0_0 d).trans rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem bigSep_fin14 {M : Type} [URA M] (Φ : Fin 14 → sProp M) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

/-- Closing a cell whose one round is over. -/
theorem close_cell (κ : ℕ) (g : GSem nD τ sig) :
    iprop(cellInv ER (rd (F := F) (sbV (PW W)) (WQ (hq W)) (WO (ho W)) (hq W) (ho W)) κ g ∗ atPos ER g (0 + 1) ∅ 0) ⊢ (|={Set.univ}=> semVal g 0 : sProp 𝕄) :=
  Rounds.cell_close ER _ (Set.mem_univ κ) id (duties_later _ _ _ _ _ g)

theorem close_all (K : GSem nD τ sig → ℕ) (c : Dev nD) :
    iprop(Inv (sbV (PW W)) (WQ (hq W)) (WO (ho W)) (hq W) (ho W) K c ∗ (bigSep Finset.univ fun i : Fin 6 => T3 i c)
      ∗ atPos ER (oCell (cpK 0) c) (0 + 1) ∅ 0 ∗ atPos ER (oCell (cpK 1) c) (0 + 1) ∅ 0 ∗ atPos ER (barCell c) (0 + 1) ∅ 0)
      ⊢ (|={Set.univ}=> (Pipeline.ownSems0 osem c ∗ semVal (barCell c) 0) : sProp 𝕄) := by
  have hk (k : Fin 14) : iprop(Inv (sbV (PW W)) (WQ (hq W)) (WO (ho W)) (hq W) (ho W) K c ∗ atPos ER (oCell k c) (0 + 1) ∅ 0)
      ⊢ (|={Set.univ}=> semVal (oCell k c) 0 : sProp 𝕄) := by
    iintro ⟨#HI, Ha⟩
    iapply (close_cell W (K (oCell k c)) (oCell k c))
    isplitr
    · iapply (inv_o (sbV (PW W)) (WQ (hq W)) (WO (ho W)) (hq W) (ho W) K c k c) $$ HI
    iexact Ha
  have hall : iprop(Inv (sbV (PW W)) (WQ (hq W)) (WO (ho W)) (hq W) (ho W) K c ∗ bigSep Finset.univ fun k : Fin 14 => atPos ER (oCell k c) (0 + 1) ∅ 0)
      ⊢ (|={Set.univ}=> Pipeline.ownSems0 osem c : sProp 𝕄) :=
    (bigSep_with_persistent (fun k _ => hk k)).trans (BI.bigSep_fupd _ _)
  rw [bigSep_fin14] at hall
  rw [bigSep_fin6]
  unfold T3
  iintro ⟨#HI, ⟨⟨s0, r0⟩, ⟨s1, r1⟩, ⟨s2, r2⟩, ⟨s3, r3⟩, ⟨s4, r4⟩, s5, r5⟩, c0, c1, Hb⟩
  imod hall $$ [s0 r0 s1 r1 s2 r2 s3 r3 s4 r4 s5 r5 c0 c1] with Ho
  · isplitr; · iexact HI
    isplitl [c0]; · iexact c0
    isplitl [c1]; · iexact c1
    isplitl [s0]; · iexact s0
    isplitl [s1]; · iexact s1
    isplitl [s2]; · iexact s2
    isplitl [s3]; · iexact s3
    isplitl [s4]; · iexact s4
    isplitl [s5]; · iexact s5
    isplitl [r0]; · iexact r0
    isplitl [r1]; · iexact r1
    isplitl [r2]; · iexact r2
    isplitl [r3]; · iexact r3
    isplitl [r4]; · iexact r4
    iexact r5
  imod (close_cell W (K (barCell c)) (barCell c)) $$ [Hb] with Hb
  · isplitr
    · iapply (inv_bar (sbV (PW W)) (WQ (hq W)) (WO (ho W)) (hq W) (ho W) K c c) $$ HI
    iexact Hb
  imodintro
  isplitl [Ho] <;> iassumption

/-- The elements of a buffer outside `I`. -/
def rest {ℓ : Loc nD τ sig} (I : Finset (Idx ℓ)) (f : Buf (Elt F) ℓ) : sProp 𝕄 := ℓ ↦[Finset.univ \ I]{fullShare} f
theorem split_rest {ℓ : Loc nD τ sig} (I : Finset (Idx ℓ)) (f : Buf (Elt F) ℓ) : (ℓ ↦{fullShare} f : sProp 𝕄) = iprop((ℓ ↦[I]{fullShare} f) ∗ rest I f) :=
  BI.Entails.antisymm (pointsTo_split_subset (Finset.subset_univ I)).1 (pointsTo_split_subset (Finset.subset_univ I)).2
abbrev restQ (c : Dev nD) : sProp 𝕄 := rest (ℓ := (wqV c).view.loc (c : Thread nD τ)) (wqV c).view.set (hq W c)
abbrev restO (c : Dev nD) : sProp 𝕄 := rest (ℓ := (woV c).view.loc (c : Thread nD τ)) (woV c).view.set (ho W c)
theorem hq_split (c : Dev nD) : ((((c : Thread nD τ).loc main_arg1) ↦{fullShare} hq W c) : sProp 𝕄) = iprop(srcQ (hq W) c ∗ restQ W c) :=
  split_rest (ℓ := (wqV c).view.loc (c : Thread nD τ)) _ _
theorem ho_split (c : Dev nD) : ((((c : Thread nD τ).loc main_arg4) ↦{fullShare} ho W c) : sProp 𝕄) = iprop(srcO (ho W) c ∗ restO W c) :=
  split_rest (ℓ := (woV c).view.loc (c : Thread nD τ)) _ _

theorem oweR_empty (c : Dev nD) : oweR (∅ : Finset (Fin 6)) c = 0 := Finset.sum_empty

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPost (c : Dev nD) : sProp 𝕄 :=
  iprop(Φ₁ W c ∗ (dat W c).owesAt () t0_0.succ ∗ stg c cc0_stg0_0 (xIn W c) ∗ stg c cc0_stg1_0 (kIn W c) ∗ stg c cc0_stg2_0 (vIn W c) ∗ stg c cc0_stg3_0 (outW W c))

/-- What is left to do when the body is through: closing the cells and putting the buffers together again. -/
theorem finish (K : GSem nD τ sig → ℕ) (c : Dev nD) :
    iprop(Inv (sbV (PW W)) (WQ (hq W)) (WO (ho W)) (hq W) (ho W) K c ∗ (∃ r, prngReg c r)
        ∗ restQ W c ∗ restO W c
        ∗ Done (PW W) (hq W) (ho W) c (xIn W c) (kIn W c) (vIn W c))
      ⊢ (|={Set.univ}=> bodyPost W c : sProp 𝕄) := by
  unfold Done bodyPost Φ₁ scr hbm
  rw [scopedRest0_eq, hq_split, ho_split, oweR_empty]
  iintro ⟨#HI, Hp, Hq', Ho', HT, Hs, Hr, Hc0, Hc1, Hb, Hq, Ho, Hwq, Hwo, Hcx, Hxb, Hkb, Hvb, Hx, Hk, Hv, Hout, HO⟩
  imod (close_all W K c) $$ [HT Hc0 Hc1 Hb] with ⟨Hos, Hb⟩
  · isplitr; · iexact HI
    isplitl [HT]; · iexact HT
    isplitl [Hc0]; · iexact Hc0
    isplitl [Hc1]; · iexact Hc1
    iexact Hb
  imodintro
  isplitl [Hp Hq' Ho' Hs Hr Hq Ho Hwq Hwo Hcx Hxb Hkb Hvb Hos Hb]
  · isplitl [Hs Hr Hwq Hwo Hcx Hxb Hkb Hvb]
    · isplitl [Hcx]; · iexact Hcx
      isplitl [Hxb]; · iexists _; iexact Hxb
      isplitl [Hkb]; · iexists _; iexact Hkb
      isplitl [Hvb]; · iexists _; iexact Hvb
      isplitl [Hs]; · iapply (s_join c _) $$ Hs
      isplitl [Hr]; · iapply (r_join c fun i => sbV (PW W) (prt i c)) $$ Hr
      isplitl [Hwq]; · iexists _; iexact Hwq
      iexists _; iexact Hwo
    isplitl [Hp]; · iexact Hp
    isplitl [Hq' Ho' Hq Ho]
    · isplitl [Hq Hq']; · isplitl [Hq]; · iexact Hq
                          iexact Hq'
      isplitl [Ho]; · iexact Ho
      iexact Ho'
    isplitl [Hos]; · iexact Hos
    iexact Hb
  isplitl [HO]; · iapply (owesAt_intro W _ 0 (dat_owed1 W c)) $$ HO
  isplitl [Hx]; · iexists _; isplitr; · ipureintro; rfl
                  iexact Hx
  isplitl [Hk]; · iexists _; isplitr; · ipureintro; rfl
                  iexact Hk
  isplitl [Hv]; · iexists _; isplitr; · ipureintro; rfl
                  iexact Hv
  iexists _; isplitr; · ipureintro; rfl
  iexact Hout

theorem sound_body (c : Dev nD) :
    iprop(Φ₀ W c ∗ (dat W c).owesAt () t0_0.castSucc
        ∗ (∃ d, stg c cc0_stg0_0 ((dat W c).before 0 t0_0 d)) ∗ (∃ d, stg c cc0_stg1_0 ((dat W c).before 1 t0_0 d))
        ∗ (∃ d, stg c cc0_stg2_0 ((dat W c).before 2 t0_0 d)) ∗ (∃ d, stg c cc0_stg3_0 ((dat W c).before 3 t0_0 d)))
      ⊢ wp frame (wpE (defs₀ (F := F)) 𝒱₀ (c : Thread nD τ) none) Set.univ (bodyAt0 (F := F) t0_0) (fun _ => bodyPost W c) := by
  unfold Φ₀ scr hbm Xk
  rw [scopedRest0_eq, hq_split, ho_split]
  iintro ⟨⟨⟨⟨%gc, Hcx⟩, ⟨%gx, Hxb⟩, ⟨%gk, Hkb⟩, ⟨%gv, Hvb⟩, ⟨%gs, Hs⟩, ⟨%gr, Hr⟩, ⟨%g12, Hwq⟩, ⟨%g13, Hwo⟩⟩, Hp, ⟨⟨Hq, Hq'⟩, Ho, Ho'⟩, ⟨%K, #HI⟩, HB, HC0, HC1, HT⟩, HO,
    ⟨%d0, %f0, %h0, Hx⟩, ⟨%d1, %f1, %h1, Hk⟩, ⟨%d2, %f2, %h2, Hv⟩, ⟨%d3, %f3, %h3, Hout⟩⟩
  rw [before_0] at h0; rw [before_1] at h1; rw [before_2] at h2
  subst h0 h1 h2
  ihave HO := (owesAt_elim W _ (O₀ c) (dat_owed0 W c)) $$ HO
  ihave Hs := (s_split c gs) $$ Hs
  ihave Hr := (r_split c gr) $$ Hr
  iapply (body_run (PW W) (hq W) (ho W) K c (xIn W c) (kIn W c) (vIn W c) f3 rfl gs gc gx gk gv g12 g13) $$ [Hcx Hxb Hkb Hvb Hs Hr Hwq Hwo Hq Ho HB HC0 HC1 HT HO Hx Hk Hv Hout]
  · isplitr; · iexact HI
    isplitl [HC0]; · iexact HC0
    isplitl [HC1]; · iexact HC1
    isplitl [Hq]; · iexact Hq
    isplitl [Ho]; · iexact Ho
    isplitl [Hwq]; · iexact Hwq
    isplitl [Hwo]; · iexact Hwo
    isplitl [HB]; · iexact HB
    isplitl [Hr]; · iexact Hr
    isplitl [HO]; · iexact HO
    isplitl [HT]; · iexact HT
    isplitl [Hs]; · iexact Hs
    isplitl [Hcx]; · iexact Hcx
    isplitl [Hxb]; · iexact Hxb
    isplitl [Hkb]; · iexact Hkb
    isplitl [Hvb]; · iexact Hvb
    isplitl [Hx]; · iexact Hx
    isplitl [Hk]; · iexact Hk
    isplitl [Hv]; · iexact Hv
    iexact Hout
  iintro Hd
  rw [show (pure ⟨⟩ : Prog (TpuEff nD τ sig (Elt F) Λ₀ .tc) PUnit) = .ret ⟨⟩ from rfl, wp_ret]
  iapply (finish W K c)
  isplitr; · iexact HI
  isplitl [Hp]; · iexact Hp
  isplitl [Hq']; · iexact Hq'
  isplitl [Ho']; · iexact Ho'
  iexact Hd

set_option maxHeartbeats 4000000 in
/-- The pipeline's obligation on the body. -/
theorem body_obligation (c : Dev nD) : BodyObligation (dat W c) (defs₀ (F := F)) 𝒱₀ () Set.univ := fun t => by
  rw [fin_N0 t]
  rw [bigSep_W0, bigSep_W0]
  simp only [owns_whole_eq]
  rw [dat_Φ0, dat_Φ1]
  exact sound_body W c

end Cert.KernelIdeal.Run

end
-- ==== Proof.Talk.lean ====
/- The region as a segment of the program: opening the scoped cells at its entry, and its contract with the lines around it. -/
module

public import proofs.«01_k».proof.Proof.Region
public import Idealize.ShloMosaic.Lib.Pipeline.ValueKit

@[expose] public section

set_option maxRecDepth 65536
set_option maxHeartbeats 1000000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

/-- Whose cell `k` device `c` pays: its own, or the partner's receive cell. -/
def σ (k : Fin 14) (c : Dev nD) : Dev nD := if h : 8 ≤ k.val then prt ⟨k.val - 8, by omega⟩ c else c
theorem σ_σ (k : Fin 14) (c : Dev nD) : σ k (σ k c) = c := by
  unfold σ; split
  · exact prt_prt _ c
  · rfl

/-- Two families as one family of pairs, and back. -/
theorem fam_pair {I : Type} [Fintype I] {Φ Ψ : I → sProp 𝕄} :
    iprop(bigSep Finset.univ Φ ∗ bigSep Finset.univ Ψ) ⊢ bigSep Finset.univ (fun c => iprop(Φ c ∗ Ψ c)) :=
  Entails.of_eq (bigSep_sep' _ _ _).symm
theorem fam_unpair {I : Type} [Fintype I] {Φ Ψ : I → sProp 𝕄} :
    bigSep Finset.univ (fun c => iprop(Φ c ∗ Ψ c)) ⊢ iprop(bigSep Finset.univ Φ ∗ bigSep Finset.univ Ψ) :=
  Entails.of_eq (bigSep_sep' _ _ _)

variable (W : Dev nD → Valuation τ sig (Elt F))

local notation "𝓡" => rd (F := F) (sbV (PW W)) (WQ (hq W)) (WO (ho W)) (hq W) (ho W)
local notation "𝓥" => invs (F := F) (sbV (PW W)) (WQ (hq W)) (WO (ho W)) (hq W) (ho W)

/-- What a device carries from launch to the region. -/
def Tk (c : Dev nD) : sProp 𝕄 :=
  iprop((∃ K, 𝓥 K) ∗ B0 c ∗ (bigSep Finset.univ fun k : Fin 14 => openTok ER (oCell k c))
    ∗ (bigSep Finset.univ fun k : Fin 14 => dutyTok ER (oCell k (σ k c)) 0 false)
    ∗ bigSep Finset.univ fun i : Fin 6 => cred (tallyAt (oCell (rcvK i) c) () (amt (rcvK i))))

theorem deal (c : Dev nD) : iprop((bigSep Finset.univ fun k : Fin 14 => atPos ER (oCell k c) 0 ∅ 0)
    ∗ (bigSep Finset.univ fun k : Fin 14 => dutyTok ER (oCell k (σ k c)) 0 false)
    ∗ bigSep Finset.univ fun i : Fin 6 => cred (tallyAt (oCell (rcvK i) c) () (amt (rcvK i))))
    ⊢ (iprop(C0 0 c ∗ C0 1 c ∗ bigSep Finset.univ fun i : Fin 6 => T0 i c) : sProp 𝕄) := by
  rw [bigSep_fin14, bigSep_fin14, bigSep_fin6, bigSep_fin6]
  unfold C0 T0
  iintro ⟨⟨a0, a1, a2, a3, a4, a5, a6, a7, a8, a9, a10, a11, a12, a13⟩, ⟨d0, d1, d2, d3, d4, d5, d6, d7, d8, d9, d10, d11, d12, d13⟩, x0, x1, x2, x3, x4, x5⟩
  isplitl [d0 a0]; · isplitl [d0]; · iexact d0
                     iexact a0
  isplitl [d1 a1]; · isplitl [d1]; · iexact d1
                     iexact a1
  isplitl [d2 d8 a2 a8 x0]
  · isplitl [d2]; · iexact d2
    isplitl [d8]; · iexact d8
    isplitl [a2]; · iexact a2
    isplitl [a8]; · iexact a8
    iexact x0
  isplitl [d3 d9 a3 a9 x1]
  · isplitl [d3]; · iexact d3
    isplitl [d9]; · iexact d9
    isplitl [a3]; · iexact a3
    isplitl [a9]; · iexact a9
    iexact x1
  isplitl [d4 d10 a4 a10 x2]
  · isplitl [d4]; · iexact d4
    isplitl [d10]; · iexact d10
    isplitl [a4]; · iexact a4
    isplitl [a10]; · iexact a10
    iexact x2
  isplitl [d5 d11 a5 a11 x3]
  · isplitl [d5]; · iexact d5
    isplitl [d11]; · iexact d11
    isplitl [a5]; · iexact a5
    isplitl [a11]; · iexact a11
    iexact x3
  isplitl [d6 d12 a6 a12 x4]
  · isplitl [d6]; · iexact d6
    isplitl [d12]; · iexact d12
    isplitl [a6]; · iexact a6
    isplitl [a12]; · iexact a12
    iexact x4
  isplitl [d7]; · iexact d7
  isplitl [d13]; · iexact d13
  isplitl [a7]; · iexact a7
  isplitl [a13]; · iexact a13
  iexact x5

theorem open_all (K : GSem nD τ sig → ℕ) (c : Dev nD) :
    iprop(𝓥 K ∗ (bigSep Finset.univ fun k : Fin 14 => iprop(openTok ER (oCell k c) ∗ semVal (oCell k c) 0)))
      ⊢ (|={Set.univ}=> bigSep Finset.univ fun k : Fin 14 => iprop(atPos ER (oCell k c) 0 ∅ 0 ∗ reached ER (oCell k c) 0) : sProp 𝕄) := by
  have hk (k : Fin 14) : iprop(𝓥 K ∗ (openTok ER (oCell k c) ∗ semVal (oCell k c) 0))
      ⊢ (|={Set.univ}=> (atPos ER (oCell k c) 0 ∅ 0 ∗ reached ER (oCell k c) 0) : sProp 𝕄) := by
    iintro ⟨#HI, Ho, Hv⟩
    iapply (Rounds.cell_open ER 𝓡 (g := oCell k c) (Set.mem_univ (K (oCell k c))))
    isplitr; · iapply (invs_o (sbV (PW W)) (WQ (hq W)) (WO (ho W)) (hq W) (ho W) K k c) $$ HI
    isplitl [Ho] <;> iassumption
  exact (bigSep_with_persistent (fun k _ => hk k)).trans (BI.bigSep_fupd _ _)

theorem hopen (c : Dev nD) : iprop(Tk W c ∗ Pipeline.ownSems0 osem c ∗ levAts L lv) ⊢ (|={Set.univ}=> Xk W c : sProp 𝕄) := by
  unfold Tk Xk Inv Pipeline.ownSems0
  iintro ⟨⟨⟨%K, #HI⟩, HB, Ho, Ht, Hc⟩, Hv, #Hlev⟩
  imod (open_all W K c) $$ [Ho Hv] with H
  · isplitr; · iexact HI
    iapply fam_pair
    isplitl [Ho]; · iexact Ho
    iexact Hv
  ihave H := fam_unpair $$ H
  icases H with ⟨Ha, #Hr⟩
  imodintro
  isplitr
  · iexists K
    isplitr; · iexact HI
    isplitr; · iexact Hlev
    iexact Hr
  isplitl [HB]; · iexact HB
  iapply (deal c)
  isplitl [Ha]; · iexact Ha
  isplitl [Ht]; · iexact Ht
  iexact Hc

/-! ## The buffers -/

abbrev bufs : Finset (DevRef τ sig) := Pipeline.ucRefs τ sig
abbrev arrs : Finset (DevRef τ sig) := Pipeline.arrRefs (τ := τ) spec0
abbrev Hs : Finset (DevRef τ sig) := {Proc.devRef .tc main_arg1, Proc.devRef .tc main_arg4}
theorem Hs_sub : Hs ⊆ bufs \ arrs := by decide
theorem arrs_sub : arrs ⊆ bufs := by decide

theorem held_Hs (c : Dev nD) (V : Valuation τ sig (Elt F)) : (StableHlo.held (c : Thread nD τ) Hs V : sProp 𝕄)
    = iprop((((c : Thread nD τ).loc main_arg1) ↦{fullShare} V (Proc.devRef .tc main_arg1)) ∗ (((c : Thread nD τ).loc main_arg4) ↦{fullShare} V (Proc.devRef .tc main_arg4))) := by
  unfold StableHlo.held
  rw [bigSep_eq_bigSepL_of_eq [Proc.devRef .tc main_arg1, Proc.devRef .tc main_arg4] (by decide) (by decide)]
  rfl

/-- The contents when the region is left. -/
def W' (c : Dev nD) : Valuation τ sig (Elt F) := Function.update (W c) (Proc.devRef .tc main_v4) (outW W c)
theorem W'_out (c : Dev nD) : W' W c (Proc.devRef .tc main_v4) = outW W c := Function.update_self ..
theorem W'_ne (c : Dev nD) {b : DevRef τ sig} (h : b ≠ Proc.devRef .tc main_v4) : W' W c b = W c b := Function.update_of_ne h ..

theorem hin (c : Dev nD) : iprop(Pipeline.scopedRest spec0 c ∗ (∃ r, prngReg c r) ∗ StableHlo.held (c : Thread nD τ) Hs (W c) ∗ Xk W c)
    ⊢ (dat W c).Φ 0 := by
  rw [show (dat W c).Φ 0 = Φ₀ W c from dat_Φ0 W c, held_Hs]
  unfold Φ₀ scr hbm
  exact BI.Entails.refl _

theorem dat_last (c : Dev nD) : (dat W c).Φ (Fin.last _) = Φ₁ W c := by
  show (if (Fin.last cfg0.N).val = 0 then Φ₀ W c else Φ₁ W c) = Φ₁ W c
  rw [Fin.val_last, if_neg (by rw [show cfg0.N = 1 from N_0]; decide)]
theorem owed_last (c : Dev nD) : (dat W c).owed (Fin.last _) = 0 := by
  show (if (Fin.last cfg0.N).val = 0 then O₀ c else 0) = 0
  rw [Fin.val_last, if_neg (by rw [show cfg0.N = 1 from N_0]; decide)]

theorem hout (c : Dev nD) : (dat W c).Φ (Fin.last _)
    ⊢ iprop(Pipeline.scopedRest spec0 c ∗ (∃ r, prngReg c r) ∗ StableHlo.held (c : Thread nD τ) Hs (W' W c) ∗ Pipeline.ownSems0 osem c ∗ semVal (barCell c) 0) := by
  rw [dat_last, held_Hs, W'_ne W c (by decide), W'_ne W c (by decide)]
  unfold Φ₁ scr hbm
  exact BI.Entails.refl _

theorem arr_out (c : Dev nD) : (dat W c).arrAt 3 cfg0.N = outW W c := by
  refine (dat W c).arrAt_eq_of_after_last 3 t0_0 (by decide +kernel) (outW W c) fun j => ?_
  rfl

theorem hW' (c : Dev nD) (w : Fin 4) : (dat W c).arrAt w cfg0.N = W' W c (Proc.devRef .tc (Pipeline.arrRef spec0 w)) := by
  match w with
  | 0 => exact ((dat W c).arrAt_in 0 rfl _).trans (W'_ne W c (by decide)).symm
  | 1 => exact ((dat W c).arrAt_in 1 rfl _).trans (W'_ne W c (by decide)).symm
  | 2 => exact ((dat W c).arrAt_in 2 rfl _).trans (W'_ne W c (by decide)).symm
  | 3 => exact (arr_out W c).trans (W'_out W c).symm

theorem O₀_pos {c : Dev nD} {g : GSem nD τ sig} {u : Unit} (h : 0 < O₀ c g u) :
    (∃ i, g = oCell (rcvK i) (prt i c)) ∨ g = barCell (pb c) ∨ g = barCell (pa c) := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨i, -, hi⟩ := oweR_pos h; exact .inl ⟨i, hi⟩
    · exact .inr (.inl (tally_pos h))
  · exact .inr (.inr (tally_pos h))

theorem cutD (c : Dev nD) (t : Fin (cfg0.N + 1)) (g : GSem nD τ sig) (i : Unit) (h : 0 < (dat W c).owed t g i) :
    i ∈ L g ∧ (0 : ℕ) < lv g i := by
  have e : (dat W c).owed t = if t.val = 0 then O₀ c else 0 := rfl
  rw [e] at h
  split at h
  · rcases O₀_pos h with ⟨k, rfl⟩ | rfl | rfl
    · exact ⟨by rw [L_tc]; exact Finset.mem_singleton_self _, by rw [lv_rcv]; omega⟩
    · exact ⟨by rw [L_tc]; exact Finset.mem_singleton_self _, by rw [lv_bar]; omega⟩
    · exact ⟨by rw [L_tc]; exact Finset.mem_singleton_self _, by rw [lv_bar]; omega⟩
  · exact absurd h (Nat.lt_irrefl 0)

theorem staging_low : ∀ (w : Fin 4) (s : Fin (spec0 w).nbuf), tag (SemLoc.dma ((spec0 w).sem s)) = none := by decide

end Cert.KernelIdeal.Run

end
-- ==== Proof.Launch.lean ====
/- The launch of the kernel's program: the cells and tokens handed out, the program as host operations around the region,
   and the run of @main: what the arguments and the result hold when every device has finished. -/
module

public import proofs.«01_k».proof.Proof.Talk

@[expose] public section

set_option maxRecDepth 65536
set_option maxHeartbeats 1000000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

/-! ## Cells and tokens -/

theorem osem_inj : Function.Injective osem := by decide
theorem osem_ne_bar : ∀ k : Fin 14, osem k ≠ .reg barS := by decide

def barEmb : Dev nD ↪ GSem nD τ sig := ⟨fun c => barCell c, fun _ _ h => congrArg (fun g : GSem nD τ sig => g.1.1) h⟩
def oEmb : Fin 14 × Dev nD ↪ GSem nD τ sig :=
  ⟨fun p => oCell p.1 p.2, fun _ _ h => Prod.ext (osem_inj (congrArg Prod.snd h)) (congrArg (fun g : GSem nD τ sig => g.1.1) h)⟩

abbrev barCells : Finset (GSem nD τ sig) := Finset.univ.map barEmb
abbrev oCells : Finset (GSem nD τ sig) := Finset.univ.map oEmb

def barTok : Dev nD × Bool ↪ GSem nD τ sig × ℕ × Bool :=
  ⟨fun p => (barCell p.1, 0, p.2), fun _ _ h => Prod.ext (congrArg (fun t : GSem nD τ sig × ℕ × Bool => t.1.1.1) h) (congrArg (fun t : GSem nD τ sig × ℕ × Bool => t.2.2) h)⟩
def oTok : Fin 14 × Dev nD ↪ GSem nD τ sig × ℕ × Bool :=
  ⟨fun p => (oCell p.1 p.2, 0, false), fun _ _ h => oEmb.injective (congrArg (fun t : GSem nD τ sig × ℕ × Bool => t.1) h)⟩
/-- Every duty's token. -/
def toks : Finset (GSem nD τ sig × ℕ × Bool) := Finset.univ.map barTok ∪ Finset.univ.map oTok

theorem disjoint_cells : Disjoint barCells oCells := by
  rw [Finset.disjoint_left]
  rintro g h₁ h₂
  obtain ⟨c, -, rfl⟩ := Finset.mem_map.mp h₁
  obtain ⟨p, -, h⟩ := Finset.mem_map.mp h₂
  exact osem_ne_bar p.1 (congrArg Prod.snd h)

theorem disjoint_toks : Disjoint (Finset.univ.map barTok) (Finset.univ.map oTok) := by
  rw [Finset.disjoint_left]
  rintro g h₁ h₂
  obtain ⟨c, -, rfl⟩ := Finset.mem_map.mp h₁
  obtain ⟨p, -, h⟩ := Finset.mem_map.mp h₂
  exact osem_ne_bar p.1 (congrArg (fun t : GSem nD τ sig × ℕ × Bool => t.1.2) h)

def paE : Dev nD ≃ Dev nD := ⟨pa, pa, pa_pa, pa_pa⟩
def pbE : Dev nD ≃ Dev nD := ⟨pb, pb, pb_pb, pb_pb⟩
def σE (k : Fin 14) : Dev nD ≃ Dev nD := ⟨σ k, σ k, σ_σ k, σ_σ k⟩

theorem bigSep_bool (Φ : Bool → sProp 𝕄) : bigSep Finset.univ Φ = iprop(Φ false ∗ Φ true) :=
  bigSep_univ_eq_bigSepL [false, true] (by decide) (by decide) Φ

theorem toks_around : bigSep toks (fun x => (dutyTok ER x.1 x.2.1 x.2.2 : sProp 𝕄))
    = iprop((bigSep Finset.univ fun c : Dev nD => iprop(dutyTok ER (barCell (pa c)) 0 false ∗ dutyTok ER (barCell (pb c)) 0 true))
      ∗ bigSep Finset.univ fun c : Dev nD => bigSep Finset.univ fun k : Fin 14 => dutyTok ER (oCell k (σ k c)) 0 false) := by
  unfold toks
  rw [BI.bigSep_union disjoint_toks, BI.bigSep_map, BI.bigSep_map, BI.bigSep_univ_prod, BI.bigSep_univ_prod]
  congr 1
  · rw [BI.bigSep_congr fun c _ => bigSep_bool _, bigSep_sep', bigSep_sep',
      show (bigSep Finset.univ fun c : Dev nD => (dutyTok ER (barTok (c, false)).1 (barTok (c, false)).2.1 (barTok (c, false)).2.2 : sProp 𝕄)) = _ from
        BI.bigSep_univ_equiv paE (fun c : Dev nD => (dutyTok ER (barCell c) 0 false : sProp 𝕄)),
      show (bigSep Finset.univ fun c : Dev nD => (dutyTok ER (barTok (c, true)).1 (barTok (c, true)).2.1 (barTok (c, true)).2.2 : sProp 𝕄)) = _ from
        BI.bigSep_univ_equiv pbE (fun c : Dev nD => (dutyTok ER (barCell c) 0 true : sProp 𝕄))]
    rfl
  · rw [BI.bigSep_congr fun k _ => show (bigSep Finset.univ fun c : Dev nD => (dutyTok ER (oTok (k, c)).1 (oTok (k, c)).2.1 (oTok (k, c)).2.2 : sProp 𝕄)) = _ from
      BI.bigSep_univ_equiv (σE k) (fun c : Dev nD => (dutyTok ER (oCell k c) 0 false : sProp 𝕄)), BI.bigSep_univ_comm]
    rfl

/-! ## Launch credit -/

theorem rcv_inj : Function.Injective fun i : Fin 6 => osem (rcvK i) := by decide

theorem oweR_apply (s : Finset (Fin 6)) (d : Dev nD) (g : GSem nD τ sig) :
    oweR s d g () = ∑ i ∈ s, (tallyAt (oCell (rcvK i) (prt i d)) () (amt (rcvK i)) : CellTallies nD τ sig Unit) g () := by
  induction s using Finset.induction_on with
  | empty => unfold oweR; rw [Finset.sum_empty, Finset.sum_empty]; rfl
  | insert i s hi ih =>
    rw [oweR_insert hi, Finset.sum_insert hi, Pi.add_apply, Finsupp.add_apply, ih]
    exact Nat.add_comm _ _

theorem tally_bar (d' c : Dev nD) : (tallyAt (barCell d') () 1 : CellTallies nD τ sig Unit) (barCell c) () = if c = d' then 1 else 0 := by
  rw [tallyAt_apply]
  by_cases h : c = d'
  · subst h; rw [if_pos ⟨rfl, rfl⟩, if_pos rfl]
  · rw [if_neg (fun ⟨h1, _⟩ => h (congrArg (fun g : GSem nD τ sig => g.1.1) h1)), if_neg h]

theorem owed_bar (d c : Dev nD) : O₀ d (barCell c) () = (if d = pb c then 1 else 0) + if d = pa c then 1 else 0 := by
  unfold O₀
  rw [Pi.add_apply, Finsupp.add_apply, Pi.add_apply, Finsupp.add_apply, tally_bar, tally_bar, oweR_apply,
    Finset.sum_eq_zero fun i _ => by rw [tallyAt_ne_cell fun h => osem_ne_bar _ (congrArg Prod.snd h).symm]; rfl, zero_add]
  congr 1
  · exact if_congr ⟨fun h => by rw [h, pb_pb], fun h => by rw [h, pb_pb]⟩ rfl rfl
  · exact if_congr ⟨fun h => by rw [h, pa_pa], fun h => by rw [h, pa_pa]⟩ rfl rfl

theorem owed_rcv (i : Fin 6) (d c : Dev nD) : O₀ d (oCell (rcvK i) c) () = if d = prt i c then amt (rcvK i) else 0 := by
  unfold O₀
  rw [Pi.add_apply, Finsupp.add_apply, Pi.add_apply, Finsupp.add_apply, tallyAt_ne_cell (fun h => osem_ne_bar _ (congrArg Prod.snd h)),
    tallyAt_ne_cell (fun h => osem_ne_bar _ (congrArg Prod.snd h)), Finsupp.zero_apply, Nat.add_zero, Nat.add_zero, oweR_apply,
    Finset.sum_eq_single_of_mem i (Finset.mem_univ i) fun j _ hj => by
      rw [tallyAt_ne_cell fun h => hj (rcv_inj (congrArg Prod.snd h).symm)]; rfl, tallyAt_apply]
  by_cases h : d = prt i c
  · subst h; rw [prt_prt, if_pos ⟨rfl, rfl⟩, if_pos rfl]
  · rw [if_neg (fun ⟨h1, _⟩ => h (by rw [show c = prt i d from congrArg (fun g : GSem nD τ sig => g.1.1) h1, prt_prt])), if_neg h]

theorem launch_bar (c : Dev nD) : tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pb c) fun _ => 1, Finset.sum_ite_eq' Finset.univ (pa c) fun _ => 1, if_pos (Finset.mem_univ _), if_pos (Finset.mem_univ _)]

theorem launch_rcv (i : Fin 6) (c : Dev nD) : tallyOn (oCell (rcvK i) c) (launchCredit (Pipeline.owing O₀) 0 (oCell (rcvK i) c))
    = (tallyAt (oCell (rcvK i) c) () (amt (rcvK i)) : CellTallies nD τ sig Unit) := by
  unfold tallyAt; refine congrArg _ (Finsupp.ext fun u => ?_); cases u
  rw [Pipeline.launchCredit_owing, Finsupp.single_eq_same, Finset.sum_congr rfl fun d _ => owed_rcv i d c,
    Finset.sum_ite_eq' Finset.univ (prt i c) fun _ => amt (rcvK i), if_pos (Finset.mem_univ _)]

def rcvEmb : Fin 6 ↪ SemLoc sig := ⟨fun i => osem (rcvK i), rcv_inj⟩

theorem creds (c : Dev nD) : (Pipeline.launchCred O₀ c : sProp 𝕄)
    ⊢ iprop(cred (tallyAt (barCell c) () 2) ∗ bigSep Finset.univ fun i : Fin 6 => cred (tallyAt (oCell (rcvK i) c) () (amt (rcvK i)))) := by
  unfold Pipeline.launchCred
  rw [bigSep_univ_at _ (SemLoc.reg barS), launch_bar]
  refine sep_mono_right ?_
  refine BIBase.Entails.trans (BI.bigSep_subset (show Finset.univ.map rcvEmb ⊆ _ from fun x hx => ?_)) ?_
  · obtain ⟨i, -, rfl⟩ := Finset.mem_map.mp hx
    exact Finset.mem_erase.mpr ⟨osem_ne_bar _, Finset.mem_univ _⟩
  · rw [BI.bigSep_map]
    exact Entails.of_eq (BI.bigSep_congr fun i _ => by
      show cred (tallyOn (oCell (rcvK i) c) (launchCredit (Pipeline.owing O₀) 0 (oCell (rcvK i) c))) = _
      rw [launch_rcv])

/-! ## The program's segments -/

abbrev adm : (p : Fin 1) → (pcfgs (F := F) p).Adm := fun p => (cfgs p).toPCfg_adm

theorem sub0 : ∀ op ∈ (hostOps0 : List (HloOp τ sig (Elt F))), op.bufs ⊆ bufs :=
  fun op h => Pipeline.sub_ucRefs op (List.forall_iff_forall_mem.mp hostOps0_sub op h)
theorem sub1 : ∀ op ∈ (hostOps1 : List (HloOp τ sig (Elt F))), op.bufs ⊆ bufs :=
  fun op h => Pipeline.sub_ucRefs op (List.forall_iff_forall_mem.mp hostOps1_sub op h)

variable (m : (ℓ : Loc nD τ sig) → Buf (Elt F) ℓ) (W : Dev nD → Valuation τ sig (Elt F))

def pdats : (p : Fin 1) → (c : Dev nD) → Dat τ (Elt F) Unit ℕ UU ℕ (Pipeline.pin (pcfgs (F := F)) adm p) c
  | 0 => fun c => dat W c
  | ⟨_ + 1, h⟩ => absurd h (Nat.not_lt.2 (Nat.le_add_left _ _))

theorem dat_share (c : Dev nD) (w : Fin 4) : (dat W c).share w = fullShare := by
  match w with
  | 0 | 1 | 2 | 3 => rfl

theorem ownFacts : Pipeline.OwnSemFacts spec0 osem := by decide

theorem cut : Pipeline.LevelCutOwed (pcfgs (F := F)) adm (pdats W) () L lv 0 (fun _ => 0) where
  hι c w s := by rw [L_tc]; exact Finset.mem_singleton_self _
  hιb c w s := by
    unfold lv
    rw [show tag (SemLoc.dma (((Pipeline.pin (pcfgs (F := F)) adm 0).win w).sem s)) = none from staging_low w s]
    exact le_of_eq (if_neg (by intro h; cases h))
  hD c t g i h := cutD W c t g i h

set_option backward.isDefEq.respectTransparency.types false in
def reg0 : Pipeline.RegionSeg (pcfgs (F := F)) adm (pdats W) () defs₀ 𝒱₀ L lv 0 :=
  Pipeline.RegionSeg.ofTalk (pcfgs (F := F)) adm (pdats W) () defs₀ 𝒱₀ L lv 0 osem ownFacts
    Hs (bufs \ arrs) Hs_sub launch0.toP rfl (fun c => (body_obligation W c).loose)
    (fun _ => 0) O₀ (fun c => (dat_owed0 W c).trans (zero_add _).symm) (owed_last W) (fun _ => rfl) (dat_share W)
    W (W' W) (fun c b hb => W'_ne W c (by rintro rfl; revert hb; decide))
    (Tk W) (fun c => semVal (barCell c) 0) (Xk W) (fun c => semVal (barCell c) 0) (hopen W) (hin W) (hout W)
    (fun c => by iintro H; imodintro; iexact H)
    (fun _ => 0) (cut W) (fun _ => iprop(emp)) (fun _ _ => rfl) (hW' W)

/-- What a device carries past the host operations before the region. -/
def R (c : Dev nD) : sProp 𝕄 := iprop(Tk W c ∗ (∃ r, prngReg c r) ∗ ∃ Wd, owes (c : Thread nD τ) (O₀ c) Wd)
/-- And after it. -/
def R' (c : Dev nD) : sProp 𝕄 := iprop(semVal (barCell c) 0 ∗ ∃ Wd, owes (c : Thread nD τ) (0 : CellTallies nD τ sig Unit) Wd)

theorem reg0_pre (c : Dev nD) : iprop(StableHlo.held (c : Thread nD τ) bufs (W c) ∗ R W c) ⊢ (reg0 W).pre c := by
  show _ ⊢ iprop(StableHlo.held (c.tc : Thread nD τ) arrs (W c) ∗ (∃ r, prngReg c r)
    ∗ (StableHlo.held (c.tc : Thread nD τ) (bufs \ arrs) (W c) ∗ emp) ∗ Tk W c ∗ ∃ Wd, owes (c : Thread nD τ) (0 + O₀ c) Wd)
  rw [StableHlo.held_sub_split (c : Thread nD τ) arrs_sub, zero_add]
  unfold R
  iintro ⟨⟨Ha, Hh⟩, HT, Hp, HO⟩
  isplitl [Ha]; · iexact Ha
  isplitl [Hp]; · iexact Hp
  isplitl [Hh]
  · isplitl [Hh]; · iexact Hh
    iempintro
  isplitl [HT]; · iexact HT
  iexact HO

theorem reg0_post (c : Dev nD) : (reg0 W).post c ⊢ iprop(StableHlo.held (c : Thread nD τ) bufs (W' W c) ∗ R' c) := by
  show iprop(StableHlo.held (c.tc : Thread nD τ) arrs (W' W c) ∗ (∃ r, prngReg c r)
    ∗ (StableHlo.held (c.tc : Thread nD τ) (bufs \ arrs) (W' W c) ∗ emp) ∗ semVal (barCell c) 0 ∗ ∃ Wd, owes (c : Thread nD τ) (0 : CellTallies nD τ sig Unit) Wd) ⊢ _
  rw [StableHlo.held_sub_split (c : Thread nD τ) arrs_sub]
  unfold R'
  iintro ⟨Ha, -, ⟨Hh, -⟩, Hb, HO⟩
  isplitl [Ha Hh]; · isplitl [Ha] <;> iassumption
  isplitl [Hb] <;> iassumption

def host0 : Pipeline.HostSeg (Ix := Unit) (Name := ℕ) (U := UU) (Lvl := ℕ) (pcfgs (F := F)) defs₀ 𝒱₀ L lv :=
  Pipeline.HostSeg.ofOps (pcfgs (F := F)) defs₀ 𝒱₀ L lv bufs hostOps0 sub0 (List.forall_iff_forall_mem.mp hostOps0_fresh)
    (fun c b => m (c, b)) (R (V0 m))
def host1 : Pipeline.HostSeg (Ix := Unit) (Name := ℕ) (U := UU) (Lvl := ℕ) (pcfgs (F := F)) defs₀ 𝒱₀ L lv :=
  Pipeline.HostSeg.ofOps (pcfgs (F := F)) defs₀ 𝒱₀ L lv bufs hostOps1 sub1 (List.forall_iff_forall_mem.mp hostOps1_fresh)
    (W' (V0 m)) R'

def segs : List (Pipeline.Seg (pcfgs (F := F)) adm (pdats (V0 m)) () defs₀ 𝒱₀ L lv) :=
  [.host (host0 m), .region (reg0 (V0 m)), .host (host1 m)]

theorem main_eq (c : Dev nD) : main (F := F) c = Pipeline.Seg.run (segs m) :=
  main_segs adm (pdats (V0 m)) () 𝒱₀ L lv (host0 m) (host1 m) (reg0 (V0 m)) rfl rfl c

/-! ## The launch -/

def u₀ : UU :=
  (initOf (Pipeline.cells (Pipeline.pin (pcfgs (F := F)) adm) cellOf_inj) (Pipeline.launchToks (Pipeline.pin (pcfgs (F := F)) adm) cellOf_inj),
    launchOf barCells oCells toks)

/-- A resource held by one device. -/
def onDev (c₀ : Dev nD) (X : sProp 𝕄) (c : Dev nD) : sProp 𝕄 := if c = c₀ then X else iprop(emp)
theorem bigSep_onDev (c₀ : Dev nD) (X : sProp 𝕄) : bigSep Finset.univ (onDev c₀ X) = X := by
  rw [bigSep_univ_at _ c₀, BI.bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

def G : Dev nD → sProp 𝕄 := onDev 0 (BI.own (ER (launchOf barCells oCells toks)))

local notation "𝓡" => rd (F := F) (sbV (PW W)) (WQ (hq W)) (WO (ho W)) (hq W) (ho W)
local notation "𝓥" => invs (F := F) (sbV (PW W)) (WQ (hq W)) (WO (ho W)) (hq W) (ho W)

/-- What every device may consult. -/
def records (κ : GSem nD τ sig → ℕ) : sProp 𝕄 := iprop(𝓥 κ ∗ bigSep Finset.univ fun c : Dev nD => reached ER (barCell c) 0)
instance records_persistent (κ : GSem nD τ sig → ℕ) : BI.Persistent (records W κ) := by unfold records; infer_instance

theorem invs_intro (κ : GSem nD τ sig → ℕ) : (bigSep (barCells ∪ oCells) fun g => (cellInv ER 𝓡 (κ g) g : sProp 𝕄)) ⊢ 𝓥 κ := by
  rw [BI.bigSep_union disjoint_cells, BI.bigSep_map, BI.bigSep_map]
  exact BI.Entails.refl _

/-- What is each device's own. -/
def linear (c : Dev nD) : sProp 𝕄 :=
  iprop(atPos ER (barCell c) 0 ∅ 0 ∗ (bigSep Finset.univ fun k : Fin 14 => openTok ER (oCell k c))
    ∗ (dutyTok ER (barCell (pa c)) 0 false ∗ dutyTok ER (barCell (pb c)) 0 true)
    ∗ bigSep Finset.univ fun k : Fin 14 => dutyTok ER (oCell k (σ k c)) 0 false)

def bundle (c : Dev nD) : sProp 𝕄 :=
  iprop(StableHlo.held (c : Thread nD τ) bufs (fun b => m (c, b))
    ∗ (cred (tallyAt (barCell c) () 2) ∗ bigSep Finset.univ fun i : Fin 6 => cred (tallyAt (oCell (rcvK i) c) () (amt (rcvK i))))
    ∗ owes (c : Thread nD τ) (O₀ c) ∅ ∗ ∃ r, prngReg c r)

abbrev T₀ (c : Dev nD) : sProp 𝕄 := iprop(StableHlo.held (c : Thread nD τ) bufs (fun b => m (c, b)) ∗ R W c)

theorem T₀_intro (κ : GSem nD τ sig → ℕ) (c : Dev nD) : iprop(records W κ ∗ (linear c ∗ bundle m c)) ⊢ T₀ m W c := by
  unfold T₀ records linear bundle R Tk B0
  iintro ⟨⟨#HI, #HR⟩, ⟨Ha, Ho, ⟨HtA, HtB⟩, Ht⟩, Hh, ⟨H2, Hc⟩, HO, Hp⟩
  isplitl [Hh]; · iexact Hh
  isplitl [Ha Ho HtA HtB Ht H2 Hc]
  · isplitr; · iexists κ; iexact HI
    isplitl [Ha HtA HtB H2]
    · isplitl [HtA]; · iexact HtA
      isplitl [HtB]; · iexact HtB
      isplitr; · iapply (univ_elim _ (pa c)) $$ HR
      isplitr; · iapply (univ_elim _ (pb c)) $$ HR
      isplitl [Ha]; · iexact Ha
      iexact H2
    isplitl [Ho]; · iexact Ho
    isplitl [Ht]; · iexact Ht
    iexact Hc
  isplitl [Hp]; · iexact Hp
  iexists ∅; iexact HO

theorem unscopedSems_eq (c : Dev nD) : (unscopedSems0 c : sProp 𝕄) = semVal (barCell c) 0 := by
  unfold unscopedSems0
  exact bigSep_eq_bigSepL_of_eq [SemLoc.reg barS] (by decide) (by decide) _

theorem core (ρ : Dev nD → PrngReg) (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) bufs (fun b => m (c, b)) from
      Pipeline.unscopedBufs_held c (fun b => m (c, b)), unscopedSems_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem init (ρ : Dev nD → PrngReg) :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m W) : sProp 𝕄) := by
  have hv : bigSep Finset.univ (fun c : Dev nD => (semVal (barCell c) 0 : sProp 𝕄)) ⊢ bigSep barCells (fun g => (semVal g 0 : sProp 𝕄)) :=
    Entails.of_eq (BI.bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (BI.bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barCell c) 0 : sProp 𝕄)) :=
    Entails.of_eq (BI.bigSep_map (s := Finset.univ) barEmb (Φ := fun g : GSem nD τ sig => (reached ER g 0 : sProp 𝕄)))
  have hop : bigSep oCells (fun g => (openTok ER g : sProp 𝕄))
      ⊢ bigSep Finset.univ (fun c : Dev nD => bigSep Finset.univ fun k : Fin 14 => openTok ER (oCell k c)) :=
    Entails.of_eq (by rw [BI.bigSep_map, BI.bigSep_univ_prod, BI.bigSep_univ_comm]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => core m ρ c) $$ H
  ihave H2 := fam_unpair $$ H'; icases H2 with ⟨HB, H3⟩
  ihave H4 := fam_unpair $$ H3; icases H4 with ⟨Hv, HG⟩
  ihave Hu := (show bigSep Finset.univ (G (F := F)) ⊢ BI.own (ER (launchOf barCells oCells toks)) from
    Entails.of_eq (bigSep_onDev (F := F) 0 (BI.own (ER (launchOf barCells oCells toks))))) $$ HG
  imod (Rounds.fund_launch ER 𝓡 disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records W κ) (Φ := fun c => iprop(linear c ∗ bundle m c)) fun c _ => T₀_intro m W κ c)
  isplitr
  · unfold records
    isplitr; · iapply (invs_intro W κ) $$ Hinv
    iapply hre $$ Hr
  iapply fam_pair
  isplitr [HB]
  · unfold linear
    iapply fam_pair; isplitl [Hat]; · iapply hat $$ Hat
    iapply fam_pair; isplitl [Hopen]; · iapply hop $$ Hopen
    iapply fam_pair
    iapply (Entails.of_eq (toks_around (F := F))) $$ Htok
  · iexact HB

/-! ## The run -/

/-- What every unscoped buffer holds at the end. -/
def Vf (c : Dev nD) : Valuation τ sig (Elt F) := StableHlo.after hostOps1 (W' (V0 m) c)

abbrev Tₙ (c : Dev nD) : sProp 𝕄 := iprop(StableHlo.held (c : Thread nD τ) bufs (Vf m c) ∗ semVal (barCell c) 0)

theorem Vf_arg {b : Ref sig .tc} (hb : (Proc.devRef .tc b : DevRef τ sig) ≠ Proc.devRef .tc main_v5) (hb' : (Proc.devRef .tc b : DevRef τ sig) ≠ Proc.devRef .tc main_v4)
    (c : Dev nD) : Vf m c (Proc.devRef .tc b) = V0 m c (Proc.devRef .tc b) := by
  unfold Vf
  rw [StableHlo.after_of_forall_not_mem (b := Proc.devRef .tc b) _ _ (List.forall_iff_forall_mem.mp (by
    simp only [List.Forall, StableHlo.reshape_writes, Finset.mem_singleton]
    exact hb))]
  exact W'_ne (V0 m) c hb'

abbrev read6 : Finset (DevRef τ sig) :=
  {Proc.devRef .tc main_arg0, Proc.devRef .tc main_arg1, Proc.devRef .tc main_arg2, Proc.devRef .tc main_arg3, Proc.devRef .tc main_arg4, Proc.devRef .tc main_v5}
theorem read6_sub : read6 ⊆ bufs := by decide
theorem held_read6 (c : Dev nD) (V : Valuation τ sig (Elt F)) : (StableHlo.held (c : Thread nD τ) read6 V : sProp 𝕄)
    = iprop((((c : Thread nD τ).loc main_arg0) ↦{fullShare} V (Proc.devRef .tc main_arg0)) ∗ (((c : Thread nD τ).loc main_arg1) ↦{fullShare} V (Proc.devRef .tc main_arg1))
      ∗ (((c : Thread nD τ).loc main_arg2) ↦{fullShare} V (Proc.devRef .tc main_arg2)) ∗ (((c : Thread nD τ).loc main_arg3) ↦{fullShare} V (Proc.devRef .tc main_arg3))
      ∗ (((c : Thread nD τ).loc main_arg4) ↦{fullShare} V (Proc.devRef .tc main_arg4)) ∗ (((c : Thread nD τ).loc main_v5) ↦{fullShare} V (Proc.devRef .tc main_v5))) := by
  unfold StableHlo.held
  rw [bigSep_eq_bigSepL_of_eq [Proc.devRef .tc main_arg0, Proc.devRef .tc main_arg1, Proc.devRef .tc main_arg2, Proc.devRef .tc main_arg3, Proc.devRef .tc main_arg4, Proc.devRef .tc main_v5] (by decide) (by decide)]
  rfl

/-- What the final memory holds on a device. -/
def Fin6 (c : Dev nD) (mem : (ℓ : Loc nD τ sig) → Buf (Elt F) ℓ) (V : Valuation τ sig (Elt F)) : Prop :=
  mem ((c : Thread nD τ).loc main_arg0) = V (Proc.devRef .tc main_arg0) ∧ mem ((c : Thread nD τ).loc main_arg1) = V (Proc.devRef .tc main_arg1)
    ∧ mem ((c : Thread nD τ).loc main_arg2) = V (Proc.devRef .tc main_arg2) ∧ mem ((c : Thread nD τ).loc main_arg3) = V (Proc.devRef .tc main_arg3)
    ∧ mem ((c : Thread nD τ).loc main_arg4) = V (Proc.devRef .tc main_arg4) ∧ mem ((c : Thread nD τ).loc main_v5) = V (Proc.devRef .tc main_v5)

theorem fin_read (c : Dev nD) (s' : Phys nD τ sig (Elt F)) :
    iprop(Tₙ m c ∗ SI s') ⊢ (|={Set.univ}=> iprop(⌜Fin6 c s'.mem.mem (Vf m c) ∧ s'.mem.sem (barCell c) = 0⌝ ∗ SI s') : sProp 𝕄) := by
  unfold Tₙ
  rw [StableHlo.held_sub_split (c : Thread nD τ) read6_sub, held_read6]
  iintro ⟨⟨⟨⟨H0, H1, H2, H3, H4, H5⟩, -⟩, Hb0⟩, HSI⟩
  icombine HSI H0 gives %h0
  icombine HSI H1 gives %h1
  icombine HSI H2 gives %h2
  icombine HSI H3 gives %h3
  icombine HSI H4 gives %h4
  icombine HSI H5 gives %h5
  icombine HSI Hb0 gives %hb
  imodintro
  isplitr
  · ipureintro
    exact ⟨⟨Buf.eq_of_forall_mem_univ h0, Buf.eq_of_forall_mem_univ h1, Buf.eq_of_forall_mem_univ h2, Buf.eq_of_forall_mem_univ h3,
      Buf.eq_of_forall_mem_univ h4, Buf.eq_of_forall_mem_univ h5⟩, by simpa using hb⟩
  iexact HSI

theorem unscoped_eq : ∀ sm : SemLoc sig, sm.isScoped .tc = false → sm = .reg barS := by decide

set_option backward.isDefEq.respectTransparency.types false in
/-- From any memory with every counter zero the program ends, on every device with its buffers as computed and every
    counter zero again. -/
theorem run_main' (ρ : Dev nD → PrngReg) : θ_run defs (onTc (τ := τ) (main (F := F))) ⟨m, fun _ => 0, ρ⟩
    (fun r => (∀ c : Dev nD, Fin6 c r.2.mem (Vf m c)) ∧ r.2.sem = fun _ => 0) :=
  Pipeline.θ_run_regions_kit_sems (pcfgs (F := F)) adm (pdats (V0 m)) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_onDev]; iexact HX)
    (T₀ := T₀ m (V0 m)) (Tₙ := Tₙ m)
    (hch := by
      refine ⟨fun c => .rfl, fun c => reg0_pre (V0 m) c, fun c => reg0_post (V0 m) c, fun c => ?_⟩
      show iprop(StableHlo.held (c : Thread nD τ) bufs (Vf m c) ∗ R' c)
        ⊢ iprop(Tₙ m c ∗ ∃ W, owes (c : Thread nD τ) (0 : CellTallies nD τ sig Unit) W)
      unfold R'
      iintro ⟨Hh, Hb0, HO⟩
      isplitr [HO]
      · isplitl [Hh] <;> iassumption
      · iexact HO)
    (hinit := init m (V0 m) ρ)
    (QY := fun c s => Fin6 c s.mem (Vf m c) ∧ s.sem (barCell c) = 0)
    (hfin := fun c s' => fin_read m c s')
    (hQ := fun s h hs => ⟨fun c => (h c).1,
      sem_eq_zero hs fun c sm hsm => by
        obtain rfl := unscoped_eq sm hsm
        exact (h c).2⟩)

/-- The result array is the region's output with a leading axis of one. -/
theorem Vf_out (c : Dev nD) : Vf m c (Proc.devRef .tc main_v5) = (shapeCast S1x1024x1024 (outW (V0 m) c) shapeCasts_S1024x1024_S1x1024x1024 : Vec F S1x1024x1024 .f32) := by
  unfold Vf
  rw [StableHlo.after_cons, StableHlo.after_nil, StableHlo.reshape_result, W'_out]
  rfl

theorem V0_arg {b : Ref sig .tc} (h1 : (Proc.devRef .tc b : DevRef τ sig) ≠ Proc.devRef .tc main_v1) (h2 : (Proc.devRef .tc b : DevRef τ sig) ≠ Proc.devRef .tc main_v2)
    (h3 : (Proc.devRef .tc b : DevRef τ sig) ≠ Proc.devRef .tc main_v3) (c : Dev nD) : V0 m c (Proc.devRef .tc b) = m ((c : Thread nD τ).loc b) :=
  StableHlo.after_of_forall_not_mem (b := Proc.devRef .tc b) _ _ (List.forall_iff_forall_mem.mp (by
    simp only [List.flatten_cons, List.flatten_nil, List.append_nil, List.Forall, StableHlo.reshape_writes, Finset.mem_singleton]
    exact ⟨h1, h2, h3⟩))

/-- What every final state is. -/
theorem run_main (ρ : Dev nD → PrngReg) : θ_run defs (onTc (τ := τ) (main (F := F))) ⟨m, fun _ => 0, ρ⟩
    (fun r => (∀ c : Dev nD,
      (r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.mem ((c : Thread nD τ).loc main_v5) = (shapeCast S1x1024x1024 (outW (V0 m) c) shapeCasts_S1024x1024_S1x1024x1024 : Vec F S1x1024x1024 .f32))
      ∧ r.2.sem = fun _ => 0) := by
  refine (θ_run defs _ _).mono (fun r h => ⟨fun c => ?_, h.2⟩) (run_main' m ρ)
  obtain ⟨h0, h1, h2, h3, h4, h5⟩ := h.1 c
  refine ⟨⟨h0.trans ?_, h1.trans ?_, h2.trans ?_, h3.trans ?_, h4.trans ?_⟩, h5.trans (Vf_out m c)⟩ <;>
  · rw [Vf_arg m (by decide) (by decide), V0_arg m (by decide) (by decide) (by decide)]

end Cert.KernelIdeal.Run

end
-- ==== Proof.Math.lean ====
/- The mathematics: a masked softmax over the extended reals, and sums cut into blocks. -/
module

public import Idealize.ShloMosaic.PureOps.Ideal.Laws
public import Idealize.ShloMosaic.PureOps

@[expose] public section

noncomputable section

namespace Cert.Math

open Idealize.ShloMosaic
open scoped BigOperators

/-! ## Constants -/

theorem bits_neg_inf : Ideal.ofBits .f32 0xFF800000#32 = (⊥ : EReal) := by simp [Ideal.ofBits, Ideal.ieee]

theorem bits_pos_inf : Ideal.ofBits .f32 0x7F800000#32 = (⊤ : EReal) := by simp [Ideal.ofBits, Ideal.ieee]

/-- The scale is a real number, and not negative. -/
theorem scale_real : ∃ r : ℝ, 0 ≤ r ∧ Ideal.ofBits .f32 0x3DB504F3#32 = (r : EReal) := by
  refine ⟨(2 ^ 23 + 3474675 : ℕ) * (2 : ℝ) ^ (123 - 127 - 23 : Int), by positivity, ?_⟩
  simp [Ideal.ofBits, Ideal.ieee]

/-! ## Multiplying a sum by a real that is not negative -/

theorem sum_mul_real {J : Type} (s : Finset J) (f : J → EReal) {r : ℝ} (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The scale may be moved from the queries to the scores. -/
theorem scale_out {J : Type} [Fintype J] (a k : J → EReal) {r : ℝ} (hr : 0 ≤ r) :
    ∑ j, a j * (r : EReal) * k j = (∑ j, a j * k j) * (r : EReal) := by
  rw [sum_mul_real _ _ hr]
  exact Finset.sum_congr rfl fun j _ => by rw [mul_right_comm]

/-- A sum of reals, as extended reals. -/
theorem coe_sum {J : Type} (s : Finset J) (g : J → ℝ) : ((∑ j ∈ s, g j : ℝ) : EReal) = ∑ j ∈ s, (g j : EReal) := by
  classical
  induction s using Finset.induction_on with
  | empty => simp
  | insert a s ha ih => rw [Finset.sum_insert ha, Finset.sum_insert ha, EReal.coe_add, ih]

/-- A sum of reals is a real. -/
theorem sum_real {J : Type} [Fintype J] (f : J → EReal) (h : ∀ j, ∃ r : ℝ, f j = r) : ∃ r : ℝ, ∑ j, f j = r := by
  choose g hg using h
  exact ⟨∑ j, g j, by simp only [hg, coe_sum]⟩

theorem mul_real {a b : EReal} (ha : ∃ r : ℝ, a = r) (hb : ∃ r : ℝ, b = r) : ∃ r : ℝ, a * b = r := by
  obtain ⟨x, rfl⟩ := ha
  obtain ⟨y, rfl⟩ := hb
  exact ⟨x * y, (EReal.coe_mul x y).symm⟩

/-- An extended real below ⊤ together with its negative is a real. -/
theorem real_of_abs_lt {a : EReal} (h : max a (-a) < ⊤) : ∃ r : ℝ, a = r := by
  induction a with
  | bot => simp at h
  | top => simp at h
  | coe r => exact ⟨r, rfl⟩

/-! ## The masked softmax -/

variable {J : Type} [Fintype J]

/-- The greatest of masked real scores, one of which is kept, is a real. -/
theorem max_real (M : J → Prop) [DecidablePred M] (s : J → ℝ) (j₀ : J) (h₀ : M j₀) :
    ∃ r : ℝ, Finset.univ.fold max (⊥ : EReal) (fun j => if M j then (s j : EReal) else ⊥) = r := by
  have hlt : Finset.univ.sup (fun j => if M j then (s j : EReal) else ⊥) < ⊤ := by
    rw [Finset.sup_lt_iff (by exact bot_lt_top)]
    intro j _
    split_ifs
    · exact EReal.coe_lt_top _
    · exact bot_lt_top
  have hge : (s j₀ : EReal) ≤ Finset.univ.sup (fun j => if M j then (s j : EReal) else ⊥) := by
    have := Finset.le_sup (f := fun j => if M j then (s j : EReal) else ⊥) (Finset.mem_univ j₀)
    simpa only [if_pos h₀] using this
  have hbot : Finset.univ.sup (fun j => if M j then (s j : EReal) else ⊥) ≠ ⊥ := fun h => by
    rw [h] at hge
    exact absurd hge (not_le.2 (EReal.bot_lt_coe _))
  exact ⟨_, (EReal.coe_toReal hlt.ne hbot).symm⟩

/-- Dividing by a positive real. -/
theorem div_pos_real (x : EReal) {d : ℝ} (hd : 0 < d) : Ideal.div x (d : EReal) = x * ((d⁻¹ : ℝ) : EReal) := by
  unfold Ideal.div
  rw [if_neg (by exact_mod_cast hd.ne'), EReal.coe_inv]

/-- The values weighted by the softmax of masked scores: the same as the kept exponentials' weighted sum over their
    sum. The greatest score cancels, and a masked score adds nothing, whatever its value. -/
theorem softmax_sum (M : J → Prop) [DecidablePred M] (s : J → ℝ) (v : J → EReal) (j₀ : J) (h₀ : M j₀) (mx : EReal)
    (hmx : mx = Finset.univ.fold max (⊥ : EReal) (fun j => if M j then (s j : EReal) else ⊥)) :
    ∑ j, v j * Ideal.div (Ideal.exp ((if M j then (s j : EReal) else ⊥) - mx)) (∑ j, Ideal.exp ((if M j then (s j : EReal) else ⊥) - mx))
      = (∑ j, if M j then Ideal.exp (s j) * v j else 0) * Ideal.div 1 (∑ j, if M j then Ideal.exp (s j) else 0) := by
  obtain ⟨r, hr⟩ := max_real M s j₀ h₀
  rw [hr] at hmx
  subst hmx
  set c : ℝ := Real.exp (-r) with hc
  have hcpos : 0 < c := Real.exp_pos _
  set e : J → ℝ := fun j => if M j then Real.exp (s j) else 0 with he
  have henn : ∀ j, 0 ≤ e j := fun j => by
    simp only [he]; split_ifs
    · exact (Real.exp_pos _).le
    · exact le_rfl
  have hD : 0 < ∑ j, e j := Finset.sum_pos' (fun j _ => henn j)
    ⟨j₀, Finset.mem_univ _, by simp only [he, if_pos h₀]; exact Real.exp_pos _⟩
  have h1 : ∀ j, Ideal.exp ((if M j then (s j : EReal) else ⊥) - (r : EReal)) = ((e j * c : ℝ) : EReal) := fun j => by
    by_cases hM : M j
    · simp only [he, if_pos hM, hc]
      rw [← EReal.coe_sub, ← Real.exp_add, ← sub_eq_add_neg]
      rfl
    · simp only [he, if_neg hM, zero_mul]
      rw [EReal.bot_sub]
      exact EReal.coe_zero.symm
  have h2 : ∀ j, (if M j then Ideal.exp (s j) else 0) = ((e j : ℝ) : EReal) := fun j => by
    by_cases hM : M j
    · simp only [he, if_pos hM]; rfl
    · simp only [he, if_neg hM]; exact EReal.coe_zero.symm
  have h3 : ∀ j, (if M j then Ideal.exp (s j) * v j else 0) = ((e j : ℝ) : EReal) * v j := fun j => by
    rw [← h2]
    by_cases hM : M j
    · simp only [if_pos hM]
    · simp only [if_neg hM, zero_mul]
  simp only [h1, h2, h3]
  rw [← coe_sum, ← coe_sum, div_pos_real _ hD, one_mul,
    sum_mul_real _ _ (inv_nonneg.2 hD.le)]
  refine Finset.sum_congr rfl fun j _ => ?_
  have hDc : 0 < ∑ j, e j * c := by rw [← Finset.sum_mul]; exact mul_pos hD hcpos
  rw [div_pos_real _ hDc, mul_comm (v j), mul_right_comm ((e j : ℝ) : EReal), ← EReal.coe_mul, ← EReal.coe_mul]
  congr 2
  rw [← Finset.sum_mul]
  field_simp

/-! ## Sums cut into blocks -/

/-- Row block `a` attends to column block `b`. -/
def Keep (a b : ℕ) : Prop := (a = b ∨ b = 0) ∨ (a + b) % 3 = 0

instance (a b : ℕ) : Decidable (Keep a b) := inferInstanceAs (Decidable ((a = b ∨ b = 0) ∨ (a + b) % 3 = 0))

/-- The kept columns' exponentials of scores, weighted by values, over their sum: one entry of a head's output. -/
def attn (s v : Fin 1024 → EReal) (a : ℕ) : EReal :=
  (∑ j : Fin 1024, if Keep a (j.val / 64) then Ideal.exp (s j) * v j else 0)
    * Ideal.div 1 (∑ j : Fin 1024, if Keep a (j.val / 64) then Ideal.exp (s j) else 0)

/-- A sum over `n` blocks of `k`. -/
theorem sum_blocks (n k : ℕ) (f : Fin (n * k) → EReal) :
    ∑ x, f x = ∑ b : Fin n, ∑ l : Fin k, f ⟨b.val * k + l.val, by
      have := Nat.mul_le_mul_right k b.isLt; have := l.isLt; rw [Nat.succ_mul] at *; omega⟩ := by
  rw [← Equiv.sum_comp finProdFinEquiv f, Fintype.sum_prod_type]
  refine Finset.sum_congr rfl fun b _ => Finset.sum_congr rfl fun l _ => congrArg f (Fin.ext ?_)
  simp only [finProdFinEquiv_apply_val]
  rw [mul_comm, add_comm]

/-- A function's sum over the 64 rows of block `b`. -/
def blkSum (f : Fin 1024 → EReal) (b : Fin 16) : EReal := ∑ l : Fin 64, f ⟨b.val * 64 + l.val, by omega⟩

/-- The kept columns' sum, block by block. -/
theorem kept_blocks (f : Fin 1024 → EReal) (A : ℕ) :
    (∑ j : Fin 1024, if Keep A (j.val / 64) then f j else 0) = ∑ b : Fin 16, if Keep A b.val then blkSum f b else 0 := by
  refine (sum_blocks 16 64 fun j : Fin 1024 => if Keep A (j.val / 64) then f j else 0).trans (Finset.sum_congr rfl fun b _ => ?_)
  have h : ∀ l : Fin 64, (b.val * 64 + l.val) / 64 = b.val := fun l => by omega
  simp only [h]
  unfold blkSum
  split_ifs <;> simp

end Cert.Math

end
-- ==== Proof.PartVal.lean ====
/- What one device contributes, read at an index: the sums over permuted blocks of rows are the kept columns' sums. -/
module

public import proofs.«01_k».proof.Proof.Val
public import proofs.«01_k».proof.Proof.Math
public import Idealize.ShloMosaic.Lib.Pointwise

@[expose] public section

set_option maxRecDepth 65536

noncomputable section

namespace Cert.KernelIdeal.Run

open Idealize.ShloMosaic Idealize.ShloMosaic.TcCoe
open Cert.KernelIdeal Cert.KernelIdeal.Gen
open scoped BigOperators
open Cert.Math (Keep blkSum kept_blocks sum_blocks attn)

/-! ## The kernel's operations at an index -/

theorem qV_apply (x : Vec Ideal S1024x1024 .bf16) (wq : Vec Ideal S1024x1024 .f32) (i j : Fin 1024) :
    qV x wq (ix2 i j) = (∑ t : Fin 1024, x (ix2 i t) * wq (ix2 t j) : EReal) * Ideal.ofBits .f32 0x3DB504F3#32 := by
  unfold qV
  pointwise

theorem out384_apply (x : Vec Ideal S384x1024 .bf16) (wo : Vec Ideal S1024x1024 .f32) (i : Fin 384) (j : Fin 1024) :
    out384 x wo (ix2 i j) = (∑ u : Fin 1024, x (ix2 i u) * wo (ix2 u j) : EReal) := by
  unfold out384
  pointwise

theorem out320_apply (x : Vec Ideal S320x1024 .bf16) (wo : Vec Ideal S1024x1024 .f32) (i : Fin 320) (j : Fin 1024) :
    out320 x wo (ix2 i j) = (∑ u : Fin 1024, x (ix2 i u) * wo (ix2 u j) : EReal) := by
  unfold out320
  pointwise

/-- The scores of row `i` of `q` against row `j` of `k`. -/
def dot {n m : ℕ} (q : (⟨2, ![n, 128]⟩ : Shape).Idx → EReal) (k : (⟨2, ![m, 128]⟩ : Shape).Idx → EReal) (i : Fin n) (j : Fin m) : EReal :=
  ∑ t : Fin 128, q (ix2 i t) * k (ix2 j t)

theorem hd0_apply (q k v : Vec Ideal S384x128 .bf16) (i : Fin 384) (d : Fin 128) :
    hd0 q k v (ix2 i d) = (∑ x : Fin 384, Ideal.exp (dot q k i x) * v (ix2 x d) : EReal)
      * Ideal.div 1 (∑ x : Fin 384, Ideal.exp (dot q k i x)) := by
  unfold hd0 dot
  pointwise

theorem hd1_apply (q k v : Vec Ideal S320x128 .bf16) (k0 v0 : Vec Ideal S64x128 .bf16) (kd vd : Vec Ideal S320x128 .bf16) (i : Fin 320) (d : Fin 128) :
    hd1 q k v k0 v0 kd vd (ix2 i d)
      = ((∑ x : Fin 320, Ideal.exp (dot q k i x) * v (ix2 x d)) + (∑ x : Fin 64, Ideal.exp (dot q k0 i x) * v0 (ix2 x d))
          + ∑ x : Fin 64, Ideal.exp (dot q kd i ⟨i.val / 64 * 64 + x.val, by omega⟩) * vd (ix2 (⟨i.val / 64 * 64 + x.val, by omega⟩ : Fin 320) d) : EReal)
        * Ideal.div 1 ((∑ x : Fin 320, Ideal.exp (dot q k i x)) + (∑ x : Fin 64, Ideal.exp (dot q k0 i x))
          + ∑ x : Fin 64, Ideal.exp (dot q kd i ⟨i.val / 64 * 64 + x.val, by omega⟩)) := by
  unfold hd1 dot
  pointwise

/-! ## Sums over the permuted rows -/

/-- Row `a * 64 + l` of the permuted copy. -/
theorem rowAt_blk (a : Fin 16) (l : Fin 64) (r : Fin 1024) (h : r.val = a.val * 64 + l.val) :
    rowAt r = ⟨(blkAt a).val * 64 + l.val, by omega⟩ := by
  have h1 : r.val / 64 = a.val := by omega
  have h2 : r.val % 64 = l.val := by omega
  unfold rowAt
  simp only [h1, h2]

/-- A sum over `n` places of 64 permuted rows, from place `a` on. -/
theorem sum_rows (f : Fin 1024 → EReal) (n : ℕ) (a : ℕ) (h : a + n ≤ 16) :
    (∑ x : Fin (n * 64), f (rowAt ⟨a * 64 + x.val, by omega⟩)) = ∑ b : Fin n, blkSum f (blkAt ⟨a + b.val, by omega⟩) := by
  rw [sum_blocks n 64]
  refine Finset.sum_congr rfl fun b _ => Finset.sum_congr rfl fun l _ => ?_
  rw [rowAt_blk ⟨a + b.val, by omega⟩ l _ (by simp only; ring)]

theorem sum_first (f : Fin 1024 → EReal) : (∑ x : Fin 64, f (rowAt ⟨0 + x.val, by omega⟩)) = blkSum f 0 := by
  refine Finset.sum_congr rfl fun l _ => ?_
  rw [rowAt_blk 0 l _ (by simp)]
  rfl

theorem sum_own (f : Fin 1024 → EReal) (d : ℕ) (i : Fin 320) (h : d + 5 ≤ 16) :
    (∑ x : Fin 64, f (rowAt ⟨d * 64 + (i.val / 64 * 64 + x.val), by omega⟩)) = blkSum f (blkAt ⟨d + i.val / 64, by omega⟩) := by
  refine Finset.sum_congr rfl fun l _ => ?_
  rw [rowAt_blk ⟨d + i.val / 64, by omega⟩ l _ (by simp only; ring)]

/-- The rows ≡ 0 keep the columns of their own group. -/
theorem keep_group0 (f : Fin 1024 → EReal) (a : Fin 6) :
    (∑ b : Fin 6, blkSum f (blkAt ⟨0 + b.val, by omega⟩)) = ∑ b : Fin 16, if Keep (blkAt ⟨a.val, by omega⟩).val b.val then blkSum f b else 0 := by
  fin_cases a <;> simp [Fin.sum_univ_succ, blkAt, Keep] <;> abel

/-- The rows ≡ 1 keep the columns of the group ≡ 2, the first block and their own. -/
theorem keep_group1 (f : Fin 1024 → EReal) (a : Fin 5) :
    (∑ b : Fin 5, blkSum f (blkAt ⟨11 + b.val, by omega⟩)) + blkSum f 0 + blkSum f (blkAt ⟨6 + a.val, by omega⟩)
      = ∑ b : Fin 16, if Keep (blkAt ⟨6 + a.val, by omega⟩).val b.val then blkSum f b else 0 := by
  fin_cases a <;> simp [Fin.sum_univ_succ, blkAt, Keep] <;> abel

/-- The rows ≡ 2 keep the columns of the group ≡ 1, the first block and their own. -/
theorem keep_group2 (f : Fin 1024 → EReal) (a : Fin 5) :
    (∑ b : Fin 5, blkSum f (blkAt ⟨6 + b.val, by omega⟩)) + blkSum f 0 + blkSum f (blkAt ⟨11 + a.val, by omega⟩)
      = ∑ b : Fin 16, if Keep (blkAt ⟨11 + a.val, by omega⟩).val b.val then blkSum f b else 0 := by
  fin_cases a <;> simp [Fin.sum_univ_succ, blkAt, Keep] <;> abel

theorem group0 (f : Fin 1024 → EReal) (p : Fin 1024) (h : p.val < 384) :
    (∑ x : Fin 384, f (rowAt ⟨0 + x.val, by omega⟩)) = ∑ j : Fin 1024, if Keep (blkAt ⟨p.val / 64, by omega⟩).val (j.val / 64) then f j else 0 := by
  rw [kept_blocks, ← keep_group0 f ⟨p.val / 64, by omega⟩]
  exact sum_rows f 6 0 (by omega)

theorem group1 (f : Fin 1024 → EReal) (p : Fin 1024) (h : 384 ≤ p.val) (h' : p.val < 704) :
    (∑ x : Fin 320, f (rowAt ⟨704 + x.val, by omega⟩)) + (∑ x : Fin 64, f (rowAt ⟨0 + x.val, by omega⟩))
        + (∑ x : Fin 64, f (rowAt ⟨384 + ((p.val - 384) / 64 * 64 + x.val), by omega⟩))
      = ∑ j : Fin 1024, if Keep (blkAt ⟨p.val / 64, by omega⟩).val (j.val / 64) then f j else 0 := by
  have e : (⟨p.val / 64, by omega⟩ : Fin 16) = ⟨6 + (p.val - 384) / 64, by omega⟩ := Fin.ext (by simp only; omega)
  rw [kept_blocks, e, ← keep_group1 f ⟨(p.val - 384) / 64, by omega⟩]
  exact congrArg₂ (· + ·) (congrArg₂ (· + ·) (sum_rows f 5 11 (by omega)) (sum_first f)) (sum_own f 6 ⟨p.val - 384, by omega⟩ (by omega))

theorem group2 (f : Fin 1024 → EReal) (p : Fin 1024) (h : 704 ≤ p.val) :
    (∑ x : Fin 320, f (rowAt ⟨384 + x.val, by omega⟩)) + (∑ x : Fin 64, f (rowAt ⟨0 + x.val, by omega⟩))
        + (∑ x : Fin 64, f (rowAt ⟨704 + ((p.val - 704) / 64 * 64 + x.val), by omega⟩))
      = ∑ j : Fin 1024, if Keep (blkAt ⟨p.val / 64, by omega⟩).val (j.val / 64) then f j else 0 := by
  have e : (⟨p.val / 64, by omega⟩ : Fin 16) = ⟨11 + (p.val - 704) / 64, by omega⟩ := Fin.ext (by simp only; omega)
  rw [kept_blocks, e, ← keep_group2 f ⟨(p.val - 704) / 64, by omega⟩]
  exact congrArg₂ (· + ·) (congrArg₂ (· + ·) (sum_rows f 5 6 (by omega)) (sum_first f)) (sum_own f 11 ⟨p.val - 704, by omega⟩ (by omega))

/-! ## One device's part -/

/-- The scores of row `p` of `q` in head `h`, and the values of one column of it, over the rows in their own order. -/
def scr1 (q : Vec Ideal S1024x1024 .bf16) (kf : Vec Ideal S1024x1024 .f32) (p : Fin 1024) (h : Fin 8) (j : Fin 1024) : EReal :=
  ∑ t : Fin 128, q (ix2 p ⟨h.val * 128 + t.val, by omega⟩) * kf (ix2 j ⟨h.val * 128 + t.val, by omega⟩)
def val1 (vf : Vec Ideal S1024x1024 .f32) (h : Fin 8) (d : Fin 128) (j : Fin 1024) : EReal := vf (ix2 j ⟨h.val * 128 + d.val, by omega⟩)

variable (q : Vec Ideal S1024x1024 .bf16) (kf vf : Vec Ideal S1024x1024 .f32)

theorem ctx0_apply (p : Fin 1024) (hp : p.val < 384) (u : Fin 1024) :
    ctx0 q (permuted kf) (permuted vf) (ix2 (⟨p.val, hp⟩ : Fin 384) u)
      = attn (scr1 q kf p (headOf u)) (val1 vf (headOf u) (colOf u)) (blkAt ⟨p.val / 64, by omega⟩).val := by
  refine (hd0_apply _ _ _ ⟨p.val, hp⟩ (colOf u)).trans ?_
  have e : (⟨0 + p.val, by omega⟩ : Fin 1024) = p := Fin.ext (Nat.zero_add _)
  have h1 := group0 (fun j => Ideal.exp (scr1 q kf p (headOf u) j) * val1 vf (headOf u) (colOf u) j) p hp
  have h2 := group0 (fun j => Ideal.exp (scr1 q kf p (headOf u) j)) p hp
  have hs : scr1 q kf p (headOf u) = scr1 q kf ⟨0 + p.val, by omega⟩ (headOf u) := by rw [e]
  unfold attn
  rw [← h1, ← h2, hs]
  rfl

theorem ctx1_apply (p : Fin 1024) (h : 384 ≤ p.val) (h' : p.val < 704) (u : Fin 1024) :
    ctx1 384 704 (by omega) (by omega) q (permuted kf) (permuted vf) (ix2 (⟨p.val - 384, by omega⟩ : Fin 320) u)
      = attn (scr1 q kf p (headOf u)) (val1 vf (headOf u) (colOf u)) (blkAt ⟨p.val / 64, by omega⟩).val := by
  refine (hd1_apply _ _ _ _ _ _ _ ⟨p.val - 384, by omega⟩ (colOf u)).trans ?_
  have e : (⟨384 + (p.val - 384), by omega⟩ : Fin 1024) = p := Fin.ext (by simp only; omega)
  have h1 := group1 (fun j => Ideal.exp (scr1 q kf p (headOf u) j) * val1 vf (headOf u) (colOf u) j) p h h'
  have h2 := group1 (fun j => Ideal.exp (scr1 q kf p (headOf u) j)) p h h'
  have hs : scr1 q kf p (headOf u) = scr1 q kf ⟨384 + (p.val - 384), by omega⟩ (headOf u) := by rw [e]
  unfold attn
  rw [← h1, ← h2, hs]
  rfl

theorem ctx2_apply (p : Fin 1024) (h : 704 ≤ p.val) (u : Fin 1024) :
    ctx1 704 384 (by omega) (by omega) q (permuted kf) (permuted vf) (ix2 (⟨p.val - 704, by omega⟩ : Fin 320) u)
      = attn (scr1 q kf p (headOf u)) (val1 vf (headOf u) (colOf u)) (blkAt ⟨p.val / 64, by omega⟩).val := by
  refine (hd1_apply _ _ _ _ _ _ _ ⟨p.val - 704, by omega⟩ (colOf u)).trans ?_
  have e : (⟨704 + (p.val - 704), by omega⟩ : Fin 1024) = p := Fin.ext (by simp only; omega)
  have h1 := group2 (fun j => Ideal.exp (scr1 q kf p (headOf u) j) * val1 vf (headOf u) (colOf u) j) p h
  have h2 := group2 (fun j => Ideal.exp (scr1 q kf p (headOf u) j)) p h
  have hs : scr1 q kf p (headOf u) = scr1 q kf ⟨704 + (p.val - 704), by omega⟩ (headOf u) := by rw [e]
  unfold attn
  rw [← h1, ← h2, hs]
  rfl

/-- A device's part of the result, at row `p` of the permuted rows. -/
theorem part_apply (wo : Vec Ideal S1024x1024 .f32) (p n : Fin 1024) :
    part q (permuted kf) (permuted vf) wo (ix2 p n)
      = (∑ u : Fin 1024, attn (scr1 q kf p (headOf u)) (val1 vf (headOf u) (colOf u)) (blkAt ⟨p.val / 64, by omega⟩).val * wo (ix2 u n) : EReal) := by
  show (if h0 : p.val < 384 then out384 (ctx0 q (permuted kf) (permuted vf)) wo (ix2 ⟨p.val, h0⟩ n)
    else if h1 : p.val < 704 then out320 (ctx1 384 704 (by omega) (by omega) q (permuted kf) (permuted vf)) wo (ix2 ⟨p.val - 384, by omega⟩ n)
    else out320 (ctx1 704 384 (by omega) (by omega) q (permuted kf) (permuted vf)) wo (ix2 ⟨p.val - 704, by omega⟩ n)) = _
  split_ifs with h0 h1
  · rw [out384_apply]
    simp only [ctx0_apply q kf vf p h0]
  · rw [out320_apply]
    simp only [ctx1_apply q kf vf p (by omega) h1]
  · rw [out320_apply]
    simp only [ctx2_apply q kf vf p (by omega)]

/-! ## The sum over the devices -/

theorem rowAt_rowOf (r : Fin 1024) : rowAt (rowOf r) = r := by
  have h : ∀ b : Fin 16, (blkAt (blkOf b)) = b := by decide
  rw [rowAt_blk (blkOf ⟨r.val / 64, by omega⟩) ⟨r.val % 64, by omega⟩ (rowOf r) rfl]
  refine Fin.ext ?_
  simp only [h]
  omega

/-- The two exchanges together add all four devices' parts. -/
theorem four_parts (g : Fin 3) (c : Dev nD) (f : Dev nD → EReal) :
    (f c + f (prt ⟨g.val, by omega⟩ c)) + (f (prt ⟨3 + g.val, by omega⟩ c) + f (prt ⟨g.val, by omega⟩ (prt ⟨3 + g.val, by omega⟩ c)))
      = ∑ e : Fin 4, f e := by
  have h : ∃ σ : Equiv.Perm (Fin 4), σ 0 = c ∧ σ 1 = prt ⟨g.val, by omega⟩ c ∧ σ 2 = prt ⟨3 + g.val, by omega⟩ c
      ∧ σ 3 = prt ⟨g.val, by omega⟩ (prt ⟨3 + g.val, by omega⟩ c) := by
    revert g c; decide +kernel
  obtain ⟨σ, h0, h1, h2, h3⟩ := h
  rw [← Equiv.sum_comp σ, Fin.sum_univ_four, h0, h1, h2, h3, add_assoc, add_assoc, add_assoc]

/-- The result at row `r`: all devices' parts there. -/
theorem outV_apply (PP : Dev nD → Vec Ideal S1024x1024 .bf16) (c : Dev nD) (r n : Fin 1024) :
    outV PP c (ix2 r n) = (∑ e : Fin 4, PP e (ix2 (rowOf r) n) : EReal) :=
  four_parts (grp (rowOf r)) c fun e => PP e (ix2 (rowOf r) n)

end Cert.KernelIdeal.Run

end
-- ==== Proof.Inputs.lean ====
/- What the blocks a device reads hold, as entries of its arguments. -/
module

public import proofs.«01_k».proof.Proof.Launch
public import proofs.«01_k».proof.Proof.PartVal

@[expose] public section

set_option maxRecDepth 65536

noncomputable section

namespace Cert.KernelIdeal.Run

open Idealize.ShloMosaic Idealize.ShloMosaic.TcCoe
open Cert.KernelIdeal Cert.KernelIdeal.Gen

variable {F : FTy → Type} [FloatOps F] (m : (ℓ : Loc nD τ sig) → Buf (Elt F) ℓ)

theorem V0_x (c : Dev nD) : V0 m c (Proc.devRef .tc main_v1) = shapeCast S1024x1024 (m ((c : Thread nD τ).loc main_arg0)) shapeCasts_S1x1024x1024_S1024x1024 := by
  unfold V0
  simp only [List.flatten_cons, List.flatten_nil, List.append_nil]
  rw [StableHlo.after_cons, StableHlo.after_cons, StableHlo.after_cons, StableHlo.after_nil, StableHlo.reshape_result_ne,
    StableHlo.reshape_result_ne, StableHlo.reshape_result]
  · rfl
  all_goals decide

theorem V0_k (c : Dev nD) : V0 m c (Proc.devRef .tc main_v2) = shapeCast S1024x1024 (m ((c : Thread nD τ).loc main_arg2)) shapeCasts_S1x1024x8x128_S1024x1024 := by
  unfold V0
  simp only [List.flatten_cons, List.flatten_nil, List.append_nil]
  rw [StableHlo.after_cons, StableHlo.after_cons, StableHlo.after_cons, StableHlo.after_nil, StableHlo.reshape_result_ne,
    StableHlo.reshape_result]
  · rfl
  all_goals decide

theorem V0_v (c : Dev nD) : V0 m c (Proc.devRef .tc main_v3) = shapeCast S1024x1024 (m ((c : Thread nD τ).loc main_arg3)) shapeCasts_S1x1024x8x128_S1024x1024 := by
  unfold V0
  simp only [List.flatten_cons, List.flatten_nil, List.append_nil]
  rw [StableHlo.after_cons, StableHlo.after_cons, StableHlo.after_cons, StableHlo.after_nil, StableHlo.reshape_result]
  rfl

theorem cast_x (X : FVec F S1x1024x1024 .f32) (i j : Fin 1024) :
    shapeCast S1024x1024 X shapeCasts_S1x1024x1024_S1024x1024 (ix2 i j) = X (ix3 (0 : Fin 1) i j) := by
  pointwise
theorem cast_k (X : FVec F S1x1024x8x128 .f32) (i j : Fin 1024) :
    shapeCast S1024x1024 X shapeCasts_S1x1024x8x128_S1024x1024 (ix2 i j) = X (ix4 (0 : Fin 1) i (headOf j) (colOf j)) := by
  pointwise
theorem cast_out (X : FVec F S1024x1024 .f32) (i j : Fin 1024) :
    shapeCast S1x1024x1024 X shapeCasts_S1024x1024_S1x1024x1024 (ix3 (0 : Fin 1) i j) = X (ix2 i j) := by
  pointwise

/-! A window's one block is its whole array. -/

theorem x_at (c : Dev nD) (i j : Fin 1024) : xIn (V0 m) c (ix2 i j) = m ((c : Thread nD τ).loc main_arg0) (ix3 (0 : Fin 1) i j) := by
  have h : xIn (V0 m) c (ix2 i j) = V0 m c (Proc.devRef .tc main_v1) (ix2 i j) := by
    refine congrArg (V0 m c (Proc.devRef .tc main_v1)) (funext fun b => Fin.ext ?_)
    fin_cases b
    · show 0 * 1024 + 1 * i.val = i.val
      omega
    · show 0 * 1024 + 1 * j.val = j.val
      omega
  rw [h, V0_x]
  exact cast_x _ i j

theorem k_at (c : Dev nD) (i j : Fin 1024) : kIn (V0 m) c (ix2 i j) = m ((c : Thread nD τ).loc main_arg2) (ix4 (0 : Fin 1) i (headOf j) (colOf j)) := by
  have h : kIn (V0 m) c (ix2 i j) = V0 m c (Proc.devRef .tc main_v2) (ix2 i j) := by
    refine congrArg (V0 m c (Proc.devRef .tc main_v2)) (funext fun b => Fin.ext ?_)
    fin_cases b
    · show 0 * 1024 + 1 * i.val = i.val
      omega
    · show 0 * 1024 + 1 * j.val = j.val
      omega
  rw [h, V0_k]
  exact cast_k _ i j

theorem v_at (c : Dev nD) (i j : Fin 1024) : vIn (V0 m) c (ix2 i j) = m ((c : Thread nD τ).loc main_arg3) (ix4 (0 : Fin 1) i (headOf j) (colOf j)) := by
  have h : vIn (V0 m) c (ix2 i j) = V0 m c (Proc.devRef .tc main_v3) (ix2 i j) := by
    refine congrArg (V0 m c (Proc.devRef .tc main_v3)) (funext fun b => Fin.ext ?_)
    fin_cases b
    · show 0 * 1024 + 1 * i.val = i.val
      omega
    · show 0 * 1024 + 1 * j.val = j.val
      omega
  rw [h, V0_v]
  exact cast_k _ i j

/-! The copied weights are the device's columns of one array and its rows of the other. -/

theorem offs : ∀ c : Dev nD, (k0_off1 c 0 = 0 ∧ k0_off1 c 1 = c.val * 1024) ∧ (k0_off2 c 0 = c.val * 1024 ∧ k0_off2 c 1 = 0) := by
  decide +kernel

theorem q_at (c : Dev nD) (i j : Fin 1024) :
    WQ (hq (V0 m)) c (ix2 i j) = m ((c : Thread nD τ).loc main_arg1) (ix2 i (⟨c.val * 1024 + j.val, by have : c.val < 4 := c.isLt; omega⟩ : Fin 4096)) := by
  have h : hq (V0 m) c = m ((c : Thread nD τ).loc main_arg1) := V0_arg m (by decide) (by decide) (by decide) c
  show hq (V0 m) c _ = _
  rw [h]
  refine congrArg (m ((c : Thread nD τ).loc main_arg1)) (funext fun b => Fin.ext ?_)
  have ho := (offs c).1
  fin_cases b
  · show k0_off1 c 0 + 1 * i.val = i.val
    omega
  · show k0_off1 c 1 + 1 * j.val = c.val * 1024 + j.val
    omega

theorem o_at (c : Dev nD) (i j : Fin 1024) :
    WO (ho (V0 m)) c (ix2 i j) = m ((c : Thread nD τ).loc main_arg4) (ix2 (⟨c.val * 1024 + i.val, by have : c.val < 4 := c.isLt; omega⟩ : Fin 4096) j) := by
  have h : ho (V0 m) c = m ((c : Thread nD τ).loc main_arg4) := V0_arg m (by decide) (by decide) (by decide) c
  show ho (V0 m) c _ = _
  rw [h]
  refine congrArg (m ((c : Thread nD τ).loc main_arg4)) (funext fun b => Fin.ext ?_)
  have ho := (offs c).2
  fin_cases b
  · show k0_off2 c 0 + 1 * i.val = c.val * 1024 + i.val
    omega
  · show k0_off2 c 1 + 1 * j.val = j.val
    omega

end Cert.KernelIdeal.Run

end
-- ==== Proof.Equal.lean ====
/- The kernel's result is the reference's sum: the four devices' parts, each over its own 1024 columns. -/
module

public import proofs.«01_k».proof.Proof.Inputs

@[expose] public section

set_option maxRecDepth 65536

noncomputable section

namespace Cert.KernelIdeal.Run

open Idealize.ShloMosaic Idealize.ShloMosaic.TcCoe
open Cert.KernelIdeal Cert.KernelIdeal.Gen
open scoped BigOperators
open Cert.Math (attn sum_blocks scale_out scale_real)

/-- A scaled score: query row `i` against key row `j`, in head `h` of 32. -/
def score (x : Fin 1024 → Fin 1024 → EReal) (w : Fin 1024 → Fin 4096 → EReal) (k : Fin 1024 → Fin 32 → Fin 128 → EReal)
    (h : Fin 32) (i j : Fin 1024) : EReal :=
  (∑ d : Fin 128, (∑ t : Fin 1024, x i t * w t ⟨h.val * 128 + d.val, by omega⟩) * k j h d) * Ideal.ofBits .f32 0x3DB504F3#32

/-- Column `u` of device `e`, and its head, among all. -/
abbrev colAll (e : Fin 4) (u : Fin 1024) : Fin 4096 := ⟨e.val * 1024 + u.val, by omega⟩
abbrev headAll (e : Fin 4) (h : Fin 8) : Fin 32 := ⟨e.val * 8 + h.val, by omega⟩

/-- The whole arrays, entry by entry, that the devices' arguments are blocks of. -/
structure Args (m : (ℓ : Loc nD τ sig) → Buf (Elt Ideal) ℓ) (x : Fin 1024 → Fin 1024 → EReal) (w : Fin 1024 → Fin 4096 → EReal)
    (k v : Fin 1024 → Fin 32 → Fin 128 → EReal) (o : Fin 4096 → Fin 1024 → EReal) : Prop where
  hx (c : Dev nD) (i t : Fin 1024) : m ((c : Thread nD τ).loc main_arg0) (ix3 (0 : Fin 1) i t) = x i t
  hw (c : Dev nD) (t : Fin 1024) (u : Fin 4096) : m ((c : Thread nD τ).loc main_arg1) (ix2 t u) = w t u
  hk (c : Dev nD) (j : Fin 1024) (h : Fin 8) (d : Fin 128) : m ((c : Thread nD τ).loc main_arg2) (ix4 (0 : Fin 1) j h d) = k j (headAll c h) d
  hv (c : Dev nD) (j : Fin 1024) (h : Fin 8) (d : Fin 128) : m ((c : Thread nD τ).loc main_arg3) (ix4 (0 : Fin 1) j h d) = v j (headAll c h) d
  ho (c : Dev nD) (u : Fin 4096) (n : Fin 1024) : m ((c : Thread nD τ).loc main_arg4) (ix2 u n) = o u n

variable {m : (ℓ : Loc nD τ sig) → Buf (Elt Ideal) ℓ} {x : Fin 1024 → Fin 1024 → EReal} {w : Fin 1024 → Fin 4096 → EReal}
  {k v : Fin 1024 → Fin 32 → Fin 128 → EReal} {o : Fin 4096 → Fin 1024 → EReal}

theorem headOf_mk (h : Fin 8) (d : Fin 128) : headOf ⟨h.val * 128 + d.val, by omega⟩ = h := Fin.ext (by simp only; omega)
theorem colOf_mk (h : Fin 8) (d : Fin 128) : colOf ⟨h.val * 128 + d.val, by omega⟩ = d := Fin.ext (by simp only; omega)

/-- A device's queries: rows of the result's order, columns of the device's own. -/
theorem q_val (A : Args m x w k v o) (c : Dev nD) (r u : Fin 1024) :
    qV (permuted (xIn (V0 m) c)) (WQ (hq (V0 m)) c) (ix2 (rowOf r) u)
      = (∑ t : Fin 1024, x r t * w t (colAll c u) : EReal) * Ideal.ofBits .f32 0x3DB504F3#32 := by
  refine (qV_apply _ _ (rowOf r) u).trans (congrArg (fun y : EReal => y * Ideal.ofBits .f32 0x3DB504F3#32) (Finset.sum_congr rfl fun t _ => ?_))
  have h1 : permuted (xIn (V0 m) c) (ix2 (rowOf r) t) = x r t := by
    show xIn (V0 m) c (ix2 (rowAt (rowOf r)) t) = _
    rw [rowAt_rowOf, x_at, A.hx]
  rw [h1, q_at, A.hw]

/-- A device's scores are the whole computation's. -/
theorem scr1_val (A : Args m x w k v o) (c : Dev nD) (r : Fin 1024) (h : Fin 8) (j : Fin 1024) :
    scr1 (qV (permuted (xIn (V0 m) c)) (WQ (hq (V0 m)) c)) (kIn (V0 m) c) (rowOf r) h j = score x w k (headAll c h) r j := by
  obtain ⟨s, hs, es⟩ := scale_real
  unfold scr1 score
  simp only [q_val A, k_at, headOf_mk, colOf_mk, A.hk, es]
  rw [scale_out _ _ hs]
  refine congrArg (fun y : EReal => y * (s : EReal)) (Finset.sum_congr rfl fun d _ => congrArg (fun y : EReal => y * k j (headAll c h) d)
    (Finset.sum_congr rfl fun t _ => congrArg (fun u => x r t * w t u) (Fin.ext ?_)))
  simp only
  omega

theorem val1_val (A : Args m x w k v o) (c : Dev nD) (h : Fin 8) (d : Fin 128) (j : Fin 1024) :
    val1 (vIn (V0 m) c) h d j = v j (headAll c h) d := by
  unfold val1
  rw [v_at, headOf_mk, colOf_mk, A.hv]

/-- A device's part of row `r` of the result. -/
theorem PW_val (A : Args m x w k v o) (c : Dev nD) (r n : Fin 1024) :
    PW (V0 m) c (ix2 (rowOf r) n) = (∑ u : Fin 1024, attn (score x w k (headAll c (headOf u)) r) (fun j => v j (headAll c (headOf u)) (colOf u)) (r.val / 64)
      * o (colAll c u) n : EReal) := by
  have hb : (blkAt ⟨(rowOf r).val / 64, by omega⟩).val = r.val / 64 := by
    have h := congrArg Fin.val (rowAt_rowOf r)
    unfold rowAt at h
    simp only at h
    omega
  unfold PW
  rw [part_apply, hb]
  refine Finset.sum_congr rfl fun u _ => ?_
  rw [o_at, A.ho, show scr1 _ _ (rowOf r) (headOf u) = score x w k (headAll c (headOf u)) r from funext (scr1_val A c r (headOf u)),
    show val1 (vIn (V0 m) c) (headOf u) (colOf u) = (fun j => v j (headAll c (headOf u)) (colOf u)) from funext (val1_val A c (headOf u) (colOf u))]

/-- The kernel's result, as a sum over all 4096 columns. -/
theorem out_val (A : Args m x w k v o) (c : Dev nD) (r n : Fin 1024) :
    outW (V0 m) c (ix2 r n) = (∑ t : Fin 4096, attn (score x w k ⟨t.val / 128, by omega⟩ r)
      (fun j => v j ⟨t.val / 128, by omega⟩ ⟨t.val % 128, by omega⟩) (r.val / 64) * o t n : EReal) := by
  unfold outW
  rw [outV_apply]
  refine Eq.trans ?_ (sum_blocks 4 1024 fun t : Fin 4096 => attn (score x w k ⟨t.val / 128, by omega⟩ r)
      (fun j => v j ⟨t.val / 128, by omega⟩ ⟨t.val % 128, by omega⟩) (r.val / 64) * o t n).symm
  refine Finset.sum_congr rfl fun e _ => ?_
  rw [PW_val A]
  refine Finset.sum_congr rfl fun u _ => ?_
  have h1 : headAll e (headOf u) = ⟨(e.val * 1024 + u.val) / 128, by omega⟩ := Fin.ext (by simp only; omega)
  have h2 : colOf u = ⟨(e.val * 1024 + u.val) % 128, by omega⟩ := Fin.ext (by simp only; omega)
  rw [h1, h2]

end Cert.KernelIdeal.Run

end
-- ==== Proof.RefTerm.lean ====
/- The reference's term, cut at its mask and its scores, and read at an index. -/
module

public import proofs.«01_k».proof.Proof.Gen.ReferenceIdeal.Run
public import Idealize.ShloMosaic.Lib.Pointwise
public import proofs.«01_k».proof.Proof.Math

@[expose] public section

set_option maxRecDepth 65536

noncomputable section

namespace Cert.ReferenceIdeal.Value

open Idealize.ShloMosaic Idealize.ShloMosaic.TcCoe
open Cert.ReferenceIdeal Cert.ReferenceIdeal.Gen

variable {F : FTy → Type} [FloatOps F]

/-! ## The mask -/

/-- The block of 64 rows that each row lies in, as jnp's floor division computes it. -/
def rowBlk : IVec S1024 32 :=
  have q : IVec S1024 32 := Host.divsi (iotaInDim S1024 32 0) (broadcastInDim S1024 ![] bcast_S_S1024 (id (constantI S_ 32 64#32)))
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32))))
        (broadcastInDim S1024 ![] bcast_S_S1024 (constantI S_ 32 0#32))))
    (subi q (broadcastInDim S1024 ![] bcast_S_S1024 (constantI S_ 32 1#32))) q

/-- The remainder mod 3, as jnp computes it. -/
def modThree (s : IVec S1024x1024 32) : IVec S1024x1024 32 :=
  have three : IVec S_ 32 := select (cmpi .eq (id (constantI S_ 32 3#32)) (constantI S_ 32 0#32)) (constantI S_ 32 1#32) (id (constantI S_ 32 3#32))
  have r : IVec S1024x1024 32 := Host.remsi s (broadcastInDim S1024x1024 ![] bcast_S_S1024x1024 three)
  select (andi (cmpi .ne (cmpi .slt r (broadcastInDim S1024x1024 ![] bcast_S_S1024x1024 (constantI S_ 32 0#32)))
        (broadcastInDim S1024x1024 ![] bcast_S_S1024x1024 (cmpi .slt three (constantI S_ 32 0#32))))
      (cmpi .ne r (broadcastInDim S1024x1024 ![] bcast_S_S1024x1024 (constantI S_ 32 0#32))))
    (addi r (broadcastInDim S1024x1024 ![] bcast_S_S1024x1024 three)) r

/-- The mask of the pairs of rows, from the rows' blocks. -/
def maskV (q : IVec S1024 32) : IVec S1024x1024 1 :=
  have a : IVec S1024x1024 32 := broadcastInDim S1024x1024 ![0, 1] bcast_S1024x1_S1024x1024_0_1 (broadcastInDim S1024x1 ![0] bcast_S1024_S1024x1_0 q)
  have b : IVec S1024x1024 32 := broadcastInDim S1024x1024 ![0, 1] bcast_S1x1024_S1024x1024_0_1 (broadcastInDim S1x1024 ![1] bcast_S1024_S1x1024_1 q)
  ori (ori (cmpi .eq a b) (broadcastInDim S1024x1024 ![0, 1] bcast_S1x1024_S1024x1024_0_1
      (cmpi .eq (broadcastInDim S1x1024 ![1] bcast_S1024_S1x1024_1 q) (broadcastInDim S1x1024 ![] bcast_S_S1x1024 (constantI S_ 32 0#32)))))
    (cmpi .eq (modThree (addi a b)) (broadcastInDim S1024x1024 ![] bcast_S_S1024x1024 (constantI S_ 32 0#32)))

/-! ## The values -/

/-- The scaled scores of every head, before the mask. -/
def scoreV (x : FVec F S1x1024x1024 .f32) (wq : FVec F S1024x4096 .f32) (k : FVec F S1x1024x32x128 .f32) : FVec F S1x32x1024x1024 .f32 :=
  mulf (Host.dotGeneral dot_S1x1024x32x128_S1x1024x32x128_S1x32x1024x1024_3_3_1_1_02_02 none
      (shapeCast S1x1024x32x128 (Host.dotGeneral dot_S1x1024x1024_S1024x4096_S1x1024x4096_2_0_01_1_n_n none x wq) shapeCasts_S1x1024x4096_S1x1024x32x128) k)
    (broadcastInDim S1x32x1024x1024 ![] bcast_S_S1x32x1024x1024 (constant S_ .f32 0x3DB504F3#32))

/-- The masked scores. -/
def maskedV (M : IVec S1024x1024 1) (s : FVec F S1x32x1024x1024 .f32) : FVec F S1x32x1024x1024 .f32 :=
  select (broadcastInDim S1x32x1024x1024 ![0, 1, 2, 3] bcast_S1x1x1024x1024_S1x32x1024x1024_0_1_2_3
      (broadcastInDim S1x1x1024x1024 ![2, 3] bcast_S1024x1024_S1x1x1024x1024_2_3 M)) s
    (broadcastInDim S1x32x1024x1024 ![] bcast_S_S1x32x1024x1024 (id (constant S_ .f32 0xFF800000#32)))

/-- The exponentials of the masked scores less their row's greatest. -/
def expV (s : FVec F S1x32x1024x1024 .f32) : FVec F S1x32x1024x1024 .f32 :=
  Host.exp (subf s (broadcastInDim S1x32x1024x1024 ![0, 1, 2, 3] bcast_S1x32x1024x1_S1x32x1024x1024_0_1_2_3
    (broadcastInDim S1x32x1024x1 ![0, 1, 2] bcast_S1x32x1024_S1x32x1024x1_0_1_2
      (Host.reduce FloatOps.maximumf s (constant S_ .f32 0xFF800000#32) reducesTo_S1x32x1024x1024_S1x32x1024_d3 h_S_))))

/-- The weights: the exponentials over their row's sum, on the rows that keep a column. -/
def weightV (K : IVec S1024 1) (e : FVec F S1x32x1024x1024 .f32) : FVec F S1x32x1024x1024 .f32 :=
  have kk : IVec S1x1x1024x1 1 := broadcastInDim S1x1x1024x1 ![2] bcast_S1024_S1x1x1024x1_2 K
  select (broadcastInDim S1x32x1024x1024 ![0, 1, 2, 3] bcast_S1x1x1024x1_S1x32x1024x1024_0_1_2_3 kk)
    (Host.divf e (broadcastInDim S1x32x1024x1024 ![0, 1, 2, 3] bcast_S1x32x1024x1_S1x32x1024x1024_0_1_2_3
      (select (broadcastInDim S1x32x1024x1 ![0, 1, 2, 3] bcast_S1x1x1024x1_S1x32x1024x1_0_1_2_3 kk)
        (broadcastInDim S1x32x1024x1 ![0, 1, 2] bcast_S1x32x1024_S1x32x1024x1_0_1_2
          (Host.reduceAdd e (constant S_ .f32 0x00000000#32) reducesTo_S1x32x1024x1024_S1x32x1024_d3 h_S_))
        (broadcastInDim S1x32x1024x1 ![] bcast_S_S1x32x1024x1 (id (constant S_ .f32 0x3F800000#32))))))
    (broadcastInDim S1x32x1024x1024 ![] bcast_S_S1x32x1024x1024 (id (constant S_ .f32 0x00000000#32)))

/-- The weighted values, all heads side by side, times the output weights. -/
def resV (w : FVec F S1x32x1024x1024 .f32) (v : FVec F S1x1024x32x128 .f32) (wo : FVec F S4096x1024 .f32) : FVec F S1x1024x1024 .f32 :=
  Host.dotGeneral dot_S1x1024x4096_S4096x1024_S1x1024x1024_2_0_01_1_n_n none
    (shapeCast S1x1024x4096 (transpose S1x1024x32x128 [0, 3, 1, 2]
      (Host.dotGeneral dot_S1x1024x32x128_S1x32x1024x1024_S1x32x128x1024_1_3_3_2_02_01 none v w)
      transposes_S1x32x128x1024_S1x1024x32x128_0_3_1_2) shapeCasts_S1x1024x32x128_S1x1024x4096) wo

/-- The rows that keep a column. -/
def keepV (M : IVec S1024x1024 1) : IVec S1024 1 :=
  Host.reduce IntOp.ori M (constantI S_ 1 0#1) reducesTo_S1024x1024_S1024_d1 h_S_

/-- The reference's result as these pieces. -/
theorem res_eq (m : (ℓ : Loc nD τ sig) → Buf (Elt F) ℓ) (c : Dev nD) :
    res_main_v44 m c = resV (weightV (keepV (maskV rowBlk)) (expV (maskedV (maskV rowBlk)
        (scoreV (m ((c.tc : Thread nD τ).loc main_arg0)) (m ((c.tc : Thread nD τ).loc main_arg1)) (m ((c.tc : Thread nD τ).loc main_arg2))))))
      (m ((c.tc : Thread nD τ).loc main_arg3)) (m ((c.tc : Thread nD τ).loc main_arg4)) := rfl

/-! ## At an index -/

theorem rowBlk_apply (i : Fin 1024) : rowBlk (ix1 i) = BitVec.ofNat 32 (i.val / 64) := by
  unfold rowBlk
  pointwise
  revert i
  simp only [id, constantI]
  decide +kernel

theorem modThree_apply (s : IVec S1024x1024 32) (i j : Fin 1024) (n : Fin 32) (h : s (ix2 i j) = BitVec.ofNat 32 n.val) :
    modThree s (ix2 i j) = BitVec.ofNat 32 (n.val % 3) := by
  unfold modThree
  pointwise
  rw [h]
  clear h s i j
  revert n
  simp only [id, constantI]
  decide +kernel

/-- The mask's bit, from the two rows' blocks. -/
theorem maskV_apply (q : IVec S1024 32) (hq : ∀ i : Fin 1024, q (ix1 i) = BitVec.ofNat 32 (i.val / 64)) (i j : Fin 1024) :
    maskV q (ix2 i j) = if Math.Keep (i.val / 64) (j.val / 64) then 1#1 else 0#1 := by
  have hi : i.val / 64 < 16 := by omega
  have hj : j.val / 64 < 16 := by omega
  unfold maskV
  pointwise
  rw [modThree_apply _ i j ⟨i.val / 64 + j.val / 64, by omega⟩ (by pointwise; rw [hq, hq, BitVec.ofNat_add]; rfl), hq, hq]
  simp only [id, constantI]
  obtain ⟨a, ha⟩ : ∃ a : Fin 16, i.val / 64 = a.val := ⟨⟨_, hi⟩, rfl⟩
  obtain ⟨b, hb⟩ : ∃ b : Fin 16, j.val / 64 = b.val := ⟨⟨_, hj⟩, rfl⟩
  rw [ha, hb]
  clear ha hb hi hj hq q i j
  revert a b
  decide +kernel

/-- Every row keeps the first column. -/
theorem keepV_apply (M : IVec S1024x1024 1) (i : Fin 1024) (h : M (ix2 i (0 : Fin 1024)) = 1#1) : keepV M (ix1 i) = 1#1 := by
  unfold keepV
  pointwise
  rw [← Finset.insert_erase (Finset.mem_univ (0 : Fin 1024)), Finset.fold_insert (Finset.notMem_erase _ _), h]
  generalize Finset.fold IntOp.ori _ _ _ = y
  revert y
  decide

/-- A score: the query row times the key row, scaled. -/
theorem scoreV_apply (x : FVec Ideal S1x1024x1024 .f32) (wq : FVec Ideal S1024x4096 .f32) (k : FVec Ideal S1x1024x32x128 .f32)
    (h : Fin 32) (i j : Fin 1024) : scoreV x wq k (ix4 (0 : Fin 1) h i j)
      = (∑ d : Fin 128, (∑ t : Fin 1024, x (ix3 (0 : Fin 1) i t) * wq (ix2 t (⟨h.val * 128 + d.val, by omega⟩ : Fin 4096)))
          * k (ix4 (0 : Fin 1) j h d)) * Ideal.ofBits .f32 0x3DB504F3#32 := by
  unfold scoreV
  pointwise

theorem maskedV_apply (M : IVec S1024x1024 1) (s : FVec Ideal S1x32x1024x1024 .f32) (h : Fin 32) (i j : Fin 1024) :
    maskedV M s (ix4 (0 : Fin 1) h i j) = if M (ix2 i j) = 1#1 then s (ix4 (0 : Fin 1) h i j) else (⊥ : EReal) := by
  rw [← Math.bits_neg_inf]
  unfold maskedV
  pointwise
  rfl

theorem expV_apply (s : FVec Ideal S1x32x1024x1024 .f32) (h : Fin 32) (i j : Fin 1024) :
    expV s (ix4 (0 : Fin 1) h i j) = Ideal.exp ((s (ix4 (0 : Fin 1) h i j) : EReal)
      - Finset.fold max (⊥ : EReal) (fun x : Fin 1024 => s (ix4 (0 : Fin 1) h i x)) Finset.univ) := by
  rw [← Math.bits_neg_inf]
  unfold expV
  pointwise

theorem weightV_apply (K : IVec S1024 1) (s : FVec Ideal S1x32x1024x1024 .f32) (h : Fin 32) (i j : Fin 1024) (hK : K (ix1 i) = 1#1) :
    weightV K s (ix4 (0 : Fin 1) h i j) = Ideal.div (s (ix4 (0 : Fin 1) h i j)) (∑ x : Fin 1024, s (ix4 (0 : Fin 1) h i x)) := by
  unfold weightV
  pointwise
  rw [hK]
  rfl

theorem resV_apply (w : FVec Ideal S1x32x1024x1024 .f32) (v : FVec Ideal S1x1024x32x128 .f32) (wo : FVec Ideal S4096x1024 .f32)
    (i j : Fin 1024) : resV w v wo (ix3 (0 : Fin 1) i j)
      = ∑ t : Fin 4096, (∑ x : Fin 1024, v (ix4 (0 : Fin 1) x (⟨t.val / 128, by omega⟩ : Fin 32) (⟨t.val % 128, by omega⟩ : Fin 128))
          * w (ix4 (0 : Fin 1) (⟨t.val / 128, by omega⟩ : Fin 32) i x)) * wo (ix2 t j) := by
  unfold resV
  pointwise

/-- The reference's result at an index, where the scores are reals. -/
theorem ref_apply (s : FVec Ideal S1x32x1024x1024 .f32) (hs : ∀ h i j, ∃ r : ℝ, s (ix4 (0 : Fin 1) h i j) = (r : EReal))
    (v : FVec Ideal S1x1024x32x128 .f32) (wo : FVec Ideal S4096x1024 .f32) (i n : Fin 1024) :
    resV (weightV (keepV (maskV rowBlk)) (expV (maskedV (maskV rowBlk) s))) v wo (ix3 (0 : Fin 1) i n)
      = ∑ t : Fin 4096, Math.attn (fun j => s (ix4 (0 : Fin 1) (⟨t.val / 128, by omega⟩ : Fin 32) i j))
          (fun j => v (ix4 (0 : Fin 1) j (⟨t.val / 128, by omega⟩ : Fin 32) (⟨t.val % 128, by omega⟩ : Fin 128))) (i.val / 64)
          * wo (ix2 t n) := by
  choose r hr using hs
  rw [resV_apply]
  refine Finset.sum_congr rfl fun t _ => ?_
  have hM : ∀ j : Fin 1024, (maskV rowBlk (ix2 i j) = 1#1) ↔ Math.Keep (i.val / 64) (j.val / 64) := fun j => by
    rw [maskV_apply rowBlk rowBlk_apply]
    split_ifs with h <;> simp [h]
  have h0 : Math.Keep (i.val / 64) ((0 : Fin 1024).val / 64) := Or.inl (Or.inr rfl)
  have hK : keepV (maskV rowBlk) (ix1 i) = 1#1 := keepV_apply _ _ ((hM 0).2 h0)
  simp only [weightV_apply _ _ _ _ _ hK, expV_apply, maskedV_apply, hM, hr, Math.attn]
  refine congrArg (fun y : EReal => y * wo (ix2 t n)) ?_
  generalize hmx : Finset.fold max (⊥ : EReal) _ _ = mx
  have := Math.softmax_sum (fun j : Fin 1024 => Math.Keep (i.val / 64) (j.val / 64)) (fun j => r ⟨t.val / 128, by omega⟩ i j)
    (fun j => v (ix4 (0 : Fin 1) j (⟨t.val / 128, by omega⟩ : Fin 32) (⟨t.val % 128, by omega⟩ : Fin 128))) 0 h0 mx hmx.symm
  exact this

end Cert.ReferenceIdeal.Value

end
-- ==== Proof.Finite.lean ====
/- What the precondition says: every entry of the inputs, the query weights and the keys is a real. -/
module

public import proofs.«01_k».proof.Proof.Gen.Pre_finite_inputs_KernelIdeal
public import proofs.«01_k».proof.Proof.Math
public import Idealize.ShloMosaic.Lib.ReduceAll

@[expose] public section

set_option maxRecDepth 65536

noncomputable section

namespace Cert.Finite

open Idealize.ShloMosaic
open Cert.Pre_finite_inputs_KernelIdeal Cert.Pre_finite_inputs_KernelIdeal.Gen

/-- One entry's comparison with +∞. -/
theorem real_of_olt (x : Ideal .f32) (h : FloatOps.cmpf (F := Ideal) .olt (FloatOps.absf x) (FloatOps.ofBits .f32 0x7F800000#32) = 1#1) :
    ∃ r : ℝ, (x : EReal) = r := by
  refine Math.real_of_abs_lt ?_
  have h' : BitVec.ofBool (decide (max (x : EReal) (-x) < Ideal.ofBits .f32 0x7F800000#32)) = 1#1 := h
  rw [Math.bits_pos_inf] at h'
  by_contra hn
  rw [decide_eq_false hn] at h'
  exact absurd h' (by decide)

instance : Subsingleton S_.Idx := ⟨fun a b => funext fun i => i.elim0⟩

variable (x : FVec Ideal S1x1024x1024 .f32) (w : FVec Ideal S1024x4096 .f32) (k v : FVec Ideal S1x1024x8x128 .f32) (o : FVec Ideal S4096x1024 .f32)

/-- The precondition, entry by entry. -/
theorem reals (h : fn x w k v o = fun _ => 1#1) :
    (∀ i, ∃ r : ℝ, (x i : EReal) = r) ∧ (∀ i, ∃ r : ℝ, (w i : EReal) = r) ∧ (∀ i, ∃ r : ℝ, (k i : EReal) = r) := by
  have h0 := congrFun h (fun i => i.elim0)
  unfold fn at h0
  obtain ⟨h1, hk⟩ := IntOp.andi_eq_one.1 h0
  obtain ⟨hx, hw⟩ := IntOp.andi_eq_one.1 h1
  exact ⟨fun i => real_of_olt _ (Host.reduce_andi_all _ _ _ _ _ hx i), fun i => real_of_olt _ (Host.reduce_andi_all _ _ _ _ _ hw i),
    fun i => real_of_olt _ (Host.reduce_andi_all _ _ _ _ _ hk i)⟩

end Cert.Finite

end
-- ==== Proof.Final.lean ====
/- The kernel's result array is the reference's. -/
module

public import proofs.«01_k».proof.Proof.Equal
public import proofs.«01_k».proof.Proof.RefTerm
public import proofs.«01_k».proof.Proof.Finite
public import Idealize.ShloMosaic.Lib.LayoutAt

@[expose] public section

set_option maxRecDepth 65536

noncomputable section

namespace Cert.Final

open Idealize.ShloMosaic Idealize.ShloMosaic.TcCoe
open Cert.KernelIdeal.Run

/-- The keys (or values) of the device that holds a head, as the whole array's entries. -/
theorem block_at (X : (⟨4, ![1, 1024, 32, 128]⟩ : Shape).Idx → EReal) (c : Fin 4) (j : Fin 1024) (h : Fin 8) (d : Fin 128) :
    Layout.block ⟨4, ![1, 1024, 8, 128]⟩ ⟨4, ![1, 1024, 32, 128]⟩ 2 4 c X (by decide) (ix4 (0 : Fin 1) j h d) = X (ix4 (0 : Fin 1) j (headAll c h) d) := by
  refine congrArg X (funext fun b => Fin.ext ?_)
  fin_cases b <;> rfl

/-- A score of real queries, weights and keys is a real. -/
theorem score_real {x : Fin 1024 → Fin 1024 → EReal} {w : Fin 1024 → Fin 4096 → EReal} {k : Fin 1024 → Fin 32 → Fin 128 → EReal}
    (hx : ∀ i t, ∃ r : ℝ, x i t = r) (hw : ∀ t u, ∃ r : ℝ, w t u = r) (hk : ∀ j h d, ∃ r : ℝ, k j h d = r) (h : Fin 32) (i j : Fin 1024) :
    ∃ r : ℝ, score x w k h i j = r := by
  obtain ⟨s, _, es⟩ := Math.scale_real
  exact Math.mul_real (Math.sum_real _ fun d => Math.mul_real (Math.sum_real _ fun t => Math.mul_real (hx _ _) (hw _ _)) (hk _ _ _)) ⟨s, es⟩

section

variable (m : (ℓ : Loc Cert.KernelIdeal.nD Cert.KernelIdeal.τ Cert.KernelIdeal.sig) → Buf (Elt Ideal) ℓ)
  (X : FVec Ideal Cert.ReferenceIdeal.S1x1024x1024 .f32) (Wq : FVec Ideal Cert.ReferenceIdeal.S1024x4096 .f32)
  (K V : FVec Ideal Cert.ReferenceIdeal.S1x1024x32x128 .f32) (Wo : FVec Ideal Cert.ReferenceIdeal.S4096x1024 .f32)
  (hX : ∀ c : Dev Cert.KernelIdeal.nD, m ((c.tc : Thread Cert.KernelIdeal.nD Cert.KernelIdeal.τ).loc Cert.KernelIdeal.main_arg0) = X)
  (hW : ∀ c : Dev Cert.KernelIdeal.nD, m ((c.tc : Thread Cert.KernelIdeal.nD Cert.KernelIdeal.τ).loc Cert.KernelIdeal.main_arg1) = Wq)
  (hK : ∀ c : Dev Cert.KernelIdeal.nD, m ((c.tc : Thread Cert.KernelIdeal.nD Cert.KernelIdeal.τ).loc Cert.KernelIdeal.main_arg2) = Layout.block ⟨4, ![1, 1024, 8, 128]⟩ ⟨4, ![1, 1024, 32, 128]⟩ 2 4 c K)
  (hV : ∀ c : Dev Cert.KernelIdeal.nD, m ((c.tc : Thread Cert.KernelIdeal.nD Cert.KernelIdeal.τ).loc Cert.KernelIdeal.main_arg3) = Layout.block ⟨4, ![1, 1024, 8, 128]⟩ ⟨4, ![1, 1024, 32, 128]⟩ 2 4 c V)
  (hO : ∀ c : Dev Cert.KernelIdeal.nD, m ((c.tc : Thread Cert.KernelIdeal.nD Cert.KernelIdeal.τ).loc Cert.KernelIdeal.main_arg4) = Wo)
  (hpre : ∀ c : Dev Cert.KernelIdeal.nD, Cert.Pre_finite_inputs_KernelIdeal.fn (F := Ideal)
    (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) = fun _ => 1#1)

include hX hW hK hV hO in
/-- The devices' arguments are blocks of the reference's. -/
theorem args : Args m (fun i t => X (ix3 (0 : Fin 1) i t)) (fun t u => Wq (ix2 t u)) (fun j h d => K (ix4 (0 : Fin 1) j h d))
    (fun j h d => V (ix4 (0 : Fin 1) j h d)) (fun u n => Wo (ix2 u n)) where
  hx c i t := congrFun (hX c) _
  hw c t u := congrFun (hW c) _
  hk c j h d := (congrFun (hK c) _).trans (block_at K c j h d)
  hv c j h d := (congrFun (hV c) _).trans (block_at V c j h d)
  ho c u n := congrFun (hO c) _

include hX hW hK hpre in
/-- Every score is a real. -/
theorem scores_real (h : Fin 32) (i j : Fin 1024) :
    ∃ r : ℝ, score (fun i t => X (ix3 (0 : Fin 1) i t)) (fun t u => Wq (ix2 t u)) (fun j h d => K (ix4 (0 : Fin 1) j h d)) h i j = r := by
  have R := fun c : Fin 4 => Cert.Finite.reals _ _ _ _ _ (hpre c)
  refine score_real (fun i t => ?_) (fun t u => ?_) (fun j h d => ?_) h i j
  · exact (congrFun (hX 0) (ix3 (0 : Fin 1) i t)) ▸ (R 0).1 (ix3 (0 : Fin 1) i t)
  · exact (congrFun (hW 0) (ix2 t u)) ▸ (R 0).2.1 (ix2 t u)
  · have e : h = headAll ⟨h.val / 8, by omega⟩ ⟨h.val % 8, by omega⟩ := Fin.ext (by simp only; omega)
    obtain ⟨r, hr⟩ := (R ⟨h.val / 8, by omega⟩).2.2 (ix4 (0 : Fin 1) j (⟨h.val % 8, by omega⟩ : Fin 8) d)
    refine ⟨r, ?_⟩
    rw [← hr]
    exact (congrArg (fun h => K (ix4 (0 : Fin 1) j h d)) e).trans ((congrFun (hK (⟨h.val / 8, by omega⟩ : Fin 4)) _).trans (block_at K _ j _ d)).symm

include hX hW hK hV hO hpre in
/-- The kernel's result array is the reference's term of its arguments. -/
theorem value (c : Dev Cert.KernelIdeal.nD) :
    shapeCast Cert.KernelIdeal.S1x1024x1024 (outW (Cert.KernelIdeal.Gen.V0 m) c) Cert.KernelIdeal.Gen.shapeCasts_S1024x1024_S1x1024x1024
      = Cert.ReferenceIdeal.Value.resV (Cert.ReferenceIdeal.Value.weightV (Cert.ReferenceIdeal.Value.keepV (Cert.ReferenceIdeal.Value.maskV Cert.ReferenceIdeal.Value.rowBlk))
          (Cert.ReferenceIdeal.Value.expV (Cert.ReferenceIdeal.Value.maskedV (Cert.ReferenceIdeal.Value.maskV Cert.ReferenceIdeal.Value.rowBlk) (Cert.ReferenceIdeal.Value.scoreV X Wq K)))) V Wo := by
  funext y
  obtain ⟨a, r, n, rfl⟩ : ∃ (a : Fin 1) (r n : Fin 1024), y = ix3 a r n := ⟨y 0, y 1, y 2, by funext b; fin_cases b <;> rfl⟩
  obtain rfl : a = 0 := Subsingleton.elim _ _
  have hs : ∀ h i j, Cert.ReferenceIdeal.Value.scoreV X Wq K (ix4 (0 : Fin 1) h i j)
      = score (fun i t => X (ix3 (0 : Fin 1) i t)) (fun t u => Wq (ix2 t u)) (fun j h d => K (ix4 (0 : Fin 1) j h d)) h i j :=
    fun h i j => Cert.ReferenceIdeal.Value.scoreV_apply X Wq K h i j
  rw [Cert.ReferenceIdeal.Value.ref_apply _ (fun h i j => (scores_real m X Wq K hX hW hK hpre h i j).imp fun q hq => (hs h i j).trans hq)]
  refine (cast_out _ r n).trans ((out_val (args m X Wq K V Wo hX hW hK hV hO) c r n).trans (Finset.sum_congr rfl fun t _ => ?_))
  simp only [hs]

end

end Cert.Final

end
-- ==== Proof.lean ====
/- The claims of the certificate: the frames, and that the kernel computes the reference where its inputs, query weights and
   keys are real. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_inputs_KernelIdeal
public import proofs.«01_k».proof.Proof.Gen.Pre_finite_inputs_ReferenceIdeal
public import proofs.«01_k».proof.Proof.Launch
public import proofs.«01_k».proof.Proof.Final
public import Idealize.ShloMosaic.Lib.Quiescent
public import Idealize.ShloMosaic.Adequacy
public import Idealize.ShloMosaic.Init

@[expose] public section

noncomputable section

namespace Cert.Proof

set_option maxRecDepth 65536

open Idealize.ShloMosaic Idealize.ShloMosaic.TcCoe Idealize.SL.Sem Cert.KernelIdeal

/-- The kernel over any float values runs, and leaves its arguments and every counter as they were. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run Cert.KernelIdeal.defs _ _).mono (fun _ h => ⟨fun c => (h.1 c).1, h.2⟩)
    (Cert.KernelIdeal.Run.run_main m ρ)

/-- The two printed programs have the same kernel body. -/
theorem defs₀_eq : @Cert.Kernel.defs₀ Bits _ Cert.Kernel.Gen.facts = @Cert.KernelIdeal.defs₀ Bits _ Cert.KernelIdeal.Gen.facts := by
  unfold Cert.Kernel.defs₀ Cert.KernelIdeal.defs₀
  congr 1
  funext l a
  match l, a with
  | 0, (t, s) => rfl
  | ⟨_ + 1, h⟩, _ => exact absurd h (Nat.not_lt.2 (Nat.le_add_left _ _))

/-- So they have the same table of bodies. -/
theorem defs_eq : @Cert.Kernel.defs Bits _ Cert.Kernel.Gen.facts = @Cert.KernelIdeal.defs Bits _ Cert.KernelIdeal.Gen.facts := by
  unfold Cert.Kernel.defs Cert.KernelIdeal.defs
  exact congrArg _ defs₀_eq

/-- The kernel at the bits. -/
theorem frame_kernel : Cert.quiescent_Kernel := by
  intro m ρ _
  have h := frame_any (F := Bits) m ρ
  rw [← defs_eq] at h
  exact h

/-- The kernel over the extended reals. -/
theorem frame_ideal : Cert.quiescent_KernelIdeal := fun m ρ _ => frame_any (F := Ideal) m ρ

/-- The reference, which names no semaphore at all. -/
theorem frame_reference : Cert.quiescent_ReferenceIdeal := fun m ρ _ =>
  (θ_run Cert.ReferenceIdeal.defs _ _).mono
    (fun _ h => ⟨fun c => (h c).2, sem_eq_zero_of_no_sems (by decide) _⟩)
    (Cert.ReferenceIdeal.Value.run (F := Ideal) m ρ)

/-- Where the inputs, the query weights and the keys are finite, the kernel computes what the reference does. -/
theorem algebraic : Cert.algebraic_KernelIdeal_ReferenceIdeal_pre_finite_inputs_KernelIdeal := by
  intro m g m' g' hpre hargs
  refine ⟨Cert.ReferenceIdeal.Value.res_main_v44 m' 0, ?_, ?_⟩
  · refine (θ_run Cert.KernelIdeal.defs _ _).mono (fun r h c => ?_) (Cert.KernelIdeal.Run.run_main (F := Ideal) m g)
    refine ⟨(h.1 c).2.trans ?_, (h.1 c).1⟩
    rw [Cert.ReferenceIdeal.Value.res_eq]
    exact Cert.Final.value m _ _ _ _ _ (fun c => (hargs c).1) (fun c => (hargs c).2.1) (fun c => (hargs c).2.2.1)
      (fun c => (hargs c).2.2.2.1) (fun c => (hargs c).2.2.2.2) hpre c
  · exact (θ_run Cert.ReferenceIdeal.defs _ _).mono (fun _ h => h 0) (Cert.ReferenceIdeal.Value.run (F := Ideal) m' g')

/-- The claims together. -/
theorem claim : Cert.Claim := ⟨Cert.Kernel.Gen.facts, Cert.KernelIdeal.Gen.facts, Cert.ReferenceIdeal.Gen.facts,
  Cert.Pre_finite_inputs_KernelIdeal.Gen.facts, Cert.Pre_finite_inputs_ReferenceIdeal.Gen.facts,
  frame_kernel, frame_ideal, fun m ρ _ => frame_ideal m ρ trivial, frame_reference, fun m ρ _ => frame_reference m ρ trivial, trivial, algebraic⟩

end Cert.Proof

end
